-- ==== Defs.lean ====
def Pre_Fwd [hPre_groups_fwd : Cert.Pre_groups_fwd.Facts] (m : (ℓ : Loc Cert.Fwd.nD Cert.Fwd.τ Cert.Fwd.sig) → Buf (Elt Bits) ℓ) : Prop :=
  ∀ c : Dev Cert.Fwd.nD,
    (Cert.Pre_groups_fwd.fn (F := Bits) (m ((c.tc : Thread Cert.Fwd.nD Cert.Fwd.τ).loc Cert.Fwd.main_arg0)) (m ((c.tc : Thread Cert.Fwd.nD Cert.Fwd.τ).loc Cert.Fwd.main_arg1)) (m ((c.tc : Thread Cert.Fwd.nD Cert.Fwd.τ).loc Cert.Fwd.main_arg2)) (m ((c.tc : Thread Cert.Fwd.nD Cert.Fwd.τ).loc Cert.Fwd.main_arg3)) (m ((c.tc : Thread Cert.Fwd.nD Cert.Fwd.τ).loc Cert.Fwd.main_arg4))) = (fun _ => 1#1)

def Pre_FwdIdeal [hPre_groups_fwd : Cert.Pre_groups_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_groups_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_groups_fwd [hPre_groups_fwd : Cert.Pre_groups_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_groups_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))) = (fun _ => 1#1)

def Pre_Bwd [hPre_groups_bwd : Cert.Pre_groups_bwd.Facts] (m : (ℓ : Loc Cert.Bwd.nD Cert.Bwd.τ Cert.Bwd.sig) → Buf (Elt Bits) ℓ) : Prop :=
  ∀ c : Dev Cert.Bwd.nD,
    (Cert.Pre_groups_bwd.fn (F := Bits) (m ((c.tc : Thread Cert.Bwd.nD Cert.Bwd.τ).loc Cert.Bwd.main_arg0)) (m ((c.tc : Thread Cert.Bwd.nD Cert.Bwd.τ).loc Cert.Bwd.main_arg1)) (m ((c.tc : Thread Cert.Bwd.nD Cert.Bwd.τ).loc Cert.Bwd.main_arg2)) (m ((c.tc : Thread Cert.Bwd.nD Cert.Bwd.τ).loc Cert.Bwd.main_arg3)) (m ((c.tc : Thread Cert.Bwd.nD Cert.Bwd.τ).loc Cert.Bwd.main_arg4)) (m ((c.tc : Thread Cert.Bwd.nD Cert.Bwd.τ).loc Cert.Bwd.main_arg5)) (m ((c.tc : Thread Cert.Bwd.nD Cert.Bwd.τ).loc Cert.Bwd.main_arg6))) = (fun _ => 1#1)

def Pre_BwdIdeal [hPre_groups_bwd : Cert.Pre_groups_bwd.Facts] (m : (ℓ : Loc Cert.BwdIdeal.nD Cert.BwdIdeal.τ Cert.BwdIdeal.sig) → Buf (Elt Ideal) ℓ) : Prop :=
  ∀ c : Dev Cert.BwdIdeal.nD,
    (Cert.Pre_groups_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))) = (fun _ => 1#1)

def Pre_BwdIdeal_fed_bwd [hPre_fed_bwd : Cert.Pre_fed_bwd.Facts] (m : (ℓ : Loc Cert.BwdIdeal.nD Cert.BwdIdeal.τ Cert.BwdIdeal.sig) → Buf (Elt Ideal) ℓ) : Prop :=
  ∀ c : Dev Cert.BwdIdeal.nD,
    (Cert.Pre_fed_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).1 = (fun _ => 1#1)
    ∧ (Cert.Pre_fed_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2.1 = (fun _ => 1#1)
    ∧ (Cert.Pre_fed_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2.2 = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_fed_bwd [hPre_fed_bwd : Cert.Pre_fed_bwd.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_fed_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).1 = (fun _ => 1#1)
    ∧ (Cert.Pre_fed_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).2.1 = (fun _ => 1#1)
    ∧ (Cert.Pre_fed_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6))).2.2 = (fun _ => 1#1)

def quiescent_Fwd [hFwd : Cert.Fwd.Facts] [hPre_groups_fwd : Cert.Pre_groups_fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] [hPre_groups_fwd : Cert.Pre_groups_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_FwdRefIdeal_pre_groups_fwd [hFwdRefIdeal : Cert.FwdRefIdeal.Facts] [hPre_groups_fwd : Cert.Pre_groups_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_groups_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_Bwd [hBwd : Cert.Bwd.Facts] [hPre_groups_bwd : Cert.Pre_groups_bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6))
      ∧ r.2.sem = fun _ => 0)

def quiescent_BwdIdeal [hBwdIdeal : Cert.BwdIdeal.Facts] [hPre_groups_bwd : Cert.Pre_groups_bwd.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ r.2.sem = fun _ => 0)

def quiescent_BwdIdeal_pre_fed_bwd [hBwdIdeal : Cert.BwdIdeal.Facts] [hPre_fed_bwd : Cert.Pre_fed_bwd.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_fed_bwd m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6))
      ∧ r.2.sem = fun _ => 0)

def quiescent_BwdRefIdeal_pre_fed_bwd [hBwdRefIdeal : Cert.BwdRefIdeal.Facts] [hPre_fed_bwd : Cert.Pre_fed_bwd.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_fed_bwd m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6))
      ∧ r.2.sem = fun _ => 0)

def preserves_Fwd_FwdIdeal : Prop :=
  IdealRules.named_const.Statement Cert.FwdIdeal.κ "log2e" .f32 0x3FB8AA3B#32 (((Real.log 2)⁻¹ : ℝ) : EReal)

def algebraic_FwdIdeal_FwdRefIdeal_on_live_fwd [hFwdIdeal : Cert.FwdIdeal.Facts] [hFwdRefIdeal : Cert.FwdRefIdeal.Facts] [hPre_groups_fwd : Cert.Pre_groups_fwd.Facts] [hOn_live_fwd : Cert.On_live_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          (∀ i : (⟨3, ![2, 528, 49152]⟩ : Shape).Idx, (Cert.On_live_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).1 i = 1#1 → r.2.mem ((c.tc : Thread Cert.FwdIdeal.nD Cert.FwdIdeal.τ).loc Cert.FwdIdeal.main_v0_0) i = v0 c i)
          ∧ (∀ i : (⟨3, ![2, 528, 128]⟩ : Shape).Idx, (Cert.On_live_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.1 i = 1#1 → r.2.mem ((c.tc : Thread Cert.FwdIdeal.nD Cert.FwdIdeal.τ).loc Cert.FwdIdeal.main_v0_1) i = v1 c i)
          ∧ (∀ i : (⟨3, ![2, 528, 128]⟩ : Shape).Idx, (Cert.On_live_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.2 i = 1#1 → r.2.mem ((c.tc : Thread Cert.FwdIdeal.nD Cert.FwdIdeal.τ).loc Cert.FwdIdeal.main_v0_2) i = v2 c i)
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          (∀ i : (⟨3, ![2, 528, 49152]⟩ : Shape).Idx, (Cert.On_live_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).1 i = 1#1 → r.2.mem ((c.tc : Thread Cert.FwdRefIdeal.nD Cert.FwdRefIdeal.τ).loc Cert.FwdRefIdeal.main_v0_0) i = v0 c i)
          ∧ (∀ i : (⟨3, ![2, 528, 128]⟩ : Shape).Idx, (Cert.On_live_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.1 i = 1#1 → r.2.mem ((c.tc : Thread Cert.FwdRefIdeal.nD Cert.FwdRefIdeal.τ).loc Cert.FwdRefIdeal.main_v0_1) i = v1 c i)
          ∧ (∀ i : (⟨3, ![2, 528, 128]⟩ : Shape).Idx, (Cert.On_live_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.2 i = 1#1 → r.2.mem ((c.tc : Thread Cert.FwdRefIdeal.nD Cert.FwdRefIdeal.τ).loc Cert.FwdRefIdeal.main_v0_2) i = v2 c i)
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_Bwd_BwdIdeal : Prop :=
  True

def algebraic_BwdIdeal_BwdRefIdeal_on_live_bwd_pre_fed_bwd [hBwdIdeal : Cert.BwdIdeal.Facts] [hBwdRefIdeal : Cert.BwdRefIdeal.Facts] [hPre_fed_bwd : Cert.Pre_fed_bwd.Facts] [hOn_live_bwd : Cert.On_live_bwd.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_fed_bwd m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)) →
    ∃ (v0 : (c : Dev Cert.BwdIdeal.nD) → Buf (Elt Ideal) ((c.tc : Thread Cert.BwdIdeal.nD Cert.BwdIdeal.τ).loc Cert.BwdIdeal.main_v0_0)) (v1 : (c : Dev Cert.BwdIdeal.nD) → Buf (Elt Ideal) ((c.tc : Thread Cert.BwdIdeal.nD Cert.BwdIdeal.τ).loc Cert.BwdIdeal.main_v0_1)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          (∀ i : (⟨3, ![2, 528, 1024]⟩ : Shape).Idx, (Cert.On_live_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).1 i = 1#1 → r.2.mem ((c.tc : Thread Cert.BwdIdeal.nD Cert.BwdIdeal.τ).loc Cert.BwdIdeal.main_v0_0) i = v0 c i)
          ∧ (∀ i : (⟨3, ![2, 528, 128]⟩ : Shape).Idx, (Cert.On_live_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2 i = 1#1 → r.2.mem ((c.tc : Thread Cert.BwdIdeal.nD Cert.BwdIdeal.τ).loc Cert.BwdIdeal.main_v0_1) i = v1 c i)
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          (∀ i : (⟨3, ![2, 528, 1024]⟩ : Shape).Idx, (Cert.On_live_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).1 i = 1#1 → r.2.mem ((c.tc : Thread Cert.BwdRefIdeal.nD Cert.BwdRefIdeal.τ).loc Cert.BwdRefIdeal.main_v0_0) i = v0 c i)
          ∧ (∀ i : (⟨3, ![2, 528, 128]⟩ : Shape).Idx, (Cert.On_live_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6))).2 i = 1#1 → r.2.mem ((c.tc : Thread Cert.BwdRefIdeal.nD Cert.BwdRefIdeal.τ).loc Cert.BwdRefIdeal.main_v0_1) i = v1 c i)
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6))

def Claim : Prop :=
  ∃ (hFwd : Cert.Fwd.Facts) (hFwdIdeal : Cert.FwdIdeal.Facts) (hFwdRefIdeal : Cert.FwdRefIdeal.Facts) (hBwd : Cert.Bwd.Facts) (hBwdIdeal : Cert.BwdIdeal.Facts) (hBwdRefIdeal : Cert.BwdRefIdeal.Facts) (hPre_groups_fwd : Cert.Pre_groups_fwd.Facts) (hPre_groups_bwd : Cert.Pre_groups_bwd.Facts) (hPre_fed_bwd : Cert.Pre_fed_bwd.Facts) (hOn_live_fwd : Cert.On_live_fwd.Facts) (hOn_live_bwd : Cert.On_live_bwd.Facts),
    quiescent_Fwd (hFwd := hFwd) (hPre_groups_fwd := hPre_groups_fwd)
    ∧ quiescent_FwdIdeal (hFwdIdeal := hFwdIdeal) (hPre_groups_fwd := hPre_groups_fwd)
    ∧ quiescent_FwdRefIdeal (hFwdRefIdeal := hFwdRefIdeal)
    ∧ quiescent_FwdRefIdeal_pre_groups_fwd (hFwdRefIdeal := hFwdRefIdeal) (hPre_groups_fwd := hPre_groups_fwd)
    ∧ quiescent_Bwd (hBwd := hBwd) (hPre_groups_bwd := hPre_groups_bwd)
    ∧ quiescent_BwdIdeal (hBwdIdeal := hBwdIdeal) (hPre_groups_bwd := hPre_groups_bwd)
    ∧ quiescent_BwdIdeal_pre_fed_bwd (hBwdIdeal := hBwdIdeal) (hPre_fed_bwd := hPre_fed_bwd)
    ∧ quiescent_BwdRefIdeal (hBwdRefIdeal := hBwdRefIdeal)
    ∧ quiescent_BwdRefIdeal_pre_fed_bwd (hBwdRefIdeal := hBwdRefIdeal) (hPre_fed_bwd := hPre_fed_bwd)
    ∧ preserves_Fwd_FwdIdeal
    ∧ algebraic_FwdIdeal_FwdRefIdeal_on_live_fwd (hFwdIdeal := hFwdIdeal) (hFwdRefIdeal := hFwdRefIdeal) (hPre_groups_fwd := hPre_groups_fwd) (hOn_live_fwd := hOn_live_fwd)
    ∧ preserves_Bwd_BwdIdeal
    ∧ algebraic_BwdIdeal_BwdRefIdeal_on_live_bwd_pre_fed_bwd (hBwdIdeal := hBwdIdeal) (hBwdRefIdeal := hBwdRefIdeal) (hPre_fed_bwd := hPre_fed_bwd) (hOn_live_bwd := hOn_live_bwd)
-- ==== On_live_bwd.lean ====
abbrev S2x528x49152 : Shape := ⟨3, ![2, 528, 49152]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩
abbrev S2x528x1024 : Shape := ⟨3, ![2, 528, 1024]⟩

class Facts : Prop where
  bcast_S_S2x528x1024 : S_.BroadcastsInDim S2x528x1024 (![] : Fin 0 → Fin S2x528x1024.rank)
  bcast_S_S2x528x128 : S_.BroadcastsInDim S2x528x128 (![] : Fin 0 → Fin S2x528x128.rank)

variable [Facts]

def fn {F : FTy → Type} [FloatOps F] (main_arg0 : FVec F S2x528x49152 .f32) (main_arg1 : FVec F S2x528x128 .f32) (main_arg2 : FVec F S2x528x128 .f32) (main_arg3 : FVec F S2x528x128 .f32) (main_arg4 : FVec F S1024x49152 .fp8e4m3) (main_arg5 : FVec F S16x49152 .bf16) (main_arg6 : IVec S_ 32) : IVec S2x528x1024 1 × IVec S2x528x128 1 :=
  let main_v0 : IVec S2x528x1024 32 := iotaInDim S2x528x1024 32 0
  let main_v1 : IVec S2x528x1024 32 := broadcastInDim S2x528x1024 ![] bcast_S_S2x528x1024 main_arg6
  let main_v2 : IVec S2x528x1024 1 := cmpi .slt main_v0 main_v1
  let main_v3 : IVec S2x528x128 32 := iotaInDim S2x528x128 32 0
  let main_v4 : IVec S2x528x128 32 := broadcastInDim S2x528x128 ![] bcast_S_S2x528x128 main_arg6
  let main_v5 : IVec S2x528x128 1 := cmpi .slt main_v3 main_v4
  (main_v2, main_v5)
-- ==== On_live_fwd.lean ====
abbrev S2x528x1024 : Shape := ⟨3, ![2, 528, 1024]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩
abbrev S2x528x49152 : Shape := ⟨3, ![2, 528, 49152]⟩

class Facts : Prop where
  bcast_S_S2x528x49152 : S_.BroadcastsInDim S2x528x49152 (![] : Fin 0 → Fin S2x528x49152.rank)
  bcast_S_S2x528x128 : S_.BroadcastsInDim S2x528x128 (![] : Fin 0 → Fin S2x528x128.rank)

variable [Facts]

def fn {F : FTy → Type} [FloatOps F] (main_arg0 : FVec F S2x528x1024 .bf16) (main_arg1 : FVec F S2x528x128 .f32) (main_arg2 : FVec F S1024x49152 .fp8e4m3) (main_arg3 : FVec F S16x49152 .bf16) (main_arg4 : IVec S_ 32) : IVec S2x528x49152 1 × IVec S2x528x128 1 × IVec S2x528x128 1 :=
  let main_v0 : IVec S2x528x49152 32 := iotaInDim S2x528x49152 32 0
  let main_v1 : IVec S2x528x49152 32 := broadcastInDim S2x528x49152 ![] bcast_S_S2x528x49152 main_arg4
  let main_v2 : IVec S2x528x49152 1 := cmpi .slt main_v0 main_v1
  let main_v3 : IVec S2x528x128 32 := iotaInDim S2x528x128 32 0
  let main_v4 : IVec S2x528x128 32 := broadcastInDim S2x528x128 ![] bcast_S_S2x528x128 main_arg4
  let main_v5 : IVec S2x528x128 1 := cmpi .slt main_v3 main_v4
  let main_v6 : IVec S2x528x128 32 := iotaInDim S2x528x128 32 0
  let main_v7 : IVec S2x528x128 32 := broadcastInDim S2x528x128 ![] bcast_S_S2x528x128 main_arg4
  let main_v8 : IVec S2x528x128 1 := cmpi .slt main_v6 main_v7
  (main_v2, main_v5, main_v8)
-- ==== Pre_fed_bwd.lean ====
abbrev S2x528x49152 : Shape := ⟨3, ![2, 528, 49152]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩
abbrev S2x528 : Shape := ⟨2, ![2, 528]⟩
abbrev S2x528x1 : Shape := ⟨3, ![2, 528, 1]⟩
abbrev S2x528x32x1536 : Shape := ⟨4, ![2, 528, 32, 1536]⟩
abbrev S2x528x32 : Shape := ⟨3, ![2, 528, 32]⟩

class Facts : Prop where
  bcast_S_S2x528 : S_.BroadcastsInDim S2x528 (![] : Fin 0 → Fin S2x528.rank)
  slices_S2x528x128_S2x528x1_0_0_0 : S2x528x128.Slices ![0, 0, 0] S2x528x1
  bcast_S2x528x1_S2x528x49152_0_1_2 : S2x528x1.BroadcastsInDim S2x528x49152 (![0, 1, 2] : Fin 3 → Fin S2x528x49152.rank)
  bcast_S_S2x528x49152 : S_.BroadcastsInDim S2x528x49152 (![] : Fin 0 → Fin S2x528x49152.rank)
  shapeCasts_S2x528x49152_S2x528x32x1536 : S2x528x49152.ShapeCasts S2x528x32x1536
  reducesTo_S2x528x32x1536_S2x528x32_d3 : S2x528x32x1536.ReducesTo [3] S2x528x32
  h_S_ : 0 < S_.numel
  reducesTo_S2x528x49152_S2x528_d2 : S2x528x49152.ReducesTo [2] S2x528
  slices_S2x528x128_S2x528x1_0_0_1 : S2x528x128.Slices ![0, 0, 1] S2x528x1
  shapeCasts_S2x528x1_S2x528 : S2x528x1.ShapeCasts S2x528
  bcast_S2x528_S2x528x1_0_1 : S2x528.BroadcastsInDim S2x528x1 (![0, 1] : Fin 2 → Fin S2x528x1.rank)
  bcast_S2x528x1_S2x528x32_0_1_2 : S2x528x1.BroadcastsInDim S2x528x32 (![0, 1, 2] : Fin 3 → Fin S2x528x32.rank)
  slices_S2x528x128_S2x528x32_0_0_0 : S2x528x128.Slices ![0, 0, 0] S2x528x32

variable [Facts]

def fn_part2 {F : FTy → Type} [FloatOps F] (main_v2 : IVec S2x528 1) (main_v22 : IVec S_ 1) (main_v25 : IVec S2x528x32 1) (main_v38 : IVec S2x528 1) : IVec S_ 1 × IVec S2x528x32 1 × IVec S2x528 1 :=
  let main_v39 : IVec S2x528 1 := ori main_v2 main_v38
  (main_v22, main_v25, main_v39)

def fn_part1 {F : FTy → Type} [FloatOps F] (main_arg2 : FVec F S2x528x128 .f32) (main_arg3 : FVec F S2x528x128 .f32) (main_arg6 : IVec S_ 32) (main_v2 : IVec S2x528 1) (main_v11 : FVec F S2x528x32 .f32) (main_v14 : FVec F S2x528 .f32) (main_v15 : FVec F S2x528 .f32) (main_v17 : FVec F S2x528 .f32) (main_v18 : IVec S2x528x1 1) : IVec S_ 1 × IVec S2x528x32 1 × IVec S2x528 1 :=
  let main_v19 : IVec S2x528x32 1 := broadcastInDim S2x528x32 ![0, 1, 2] bcast_S2x528x1_S2x528x32_0_1_2 main_v18
  let main_c : IVec S_ 32 := constantI S_ 32 0#32
  let main_v20 : IVec S_ 1 := cmpi .sge main_arg6 main_c
  let main_c_4 : IVec S_ 32 := constantI S_ 32 2#32
  let main_v21 : IVec S_ 1 := cmpi .sle main_arg6 main_c_4
  let main_v22 : IVec S_ 1 := andi main_v20 main_v21
  let main_v23 : FVec F S2x528x32 .f32 := (extractStridedSlice S2x528x32 ![0, 0, 0] · slices_S2x528x128_S2x528x32_0_0_0) main_arg2
  let main_v24 : IVec S2x528x32 1 := cmpf .oeq main_v23 main_v11
  let main_v25 : IVec S2x528x32 1 := ori main_v19 main_v24
  let main_v26 : FVec F S2x528x1 .f32 := (extractStridedSlice S2x528x1 ![0, 0, 1] · slices_S2x528x128_S2x528x1_0_0_1) main_arg3
  let main_v27 : FVec F S2x528 .f32 := shapeCast S2x528 main_v26 shapeCasts_S2x528x1_S2x528
  let main_v28 : IVec S2x528 1 := cmpf .oeq main_v27 main_v14
  let main_v29 : FVec F S2x528x1 .f32 := (extractStridedSlice S2x528x1 ![0, 0, 0] · slices_S2x528x128_S2x528x1_0_0_0) main_arg3
  let main_v30 : FVec F S2x528 .f32 := shapeCast S2x528 main_v29 shapeCasts_S2x528x1_S2x528
  let main_v31 : IVec S2x528 1 := cmpf .ole main_v15 main_v30
  let main_v32 : IVec S2x528 1 := andi main_v28 main_v31
  let main_cst_5 : FVec F S_ .f32 := constant S_ .f32 0x00000000#32
  let main_v33 : FVec F S2x528 .f32 := broadcastInDim S2x528 ![] bcast_S_S2x528 main_cst_5
  let main_v34 : IVec S2x528 1 := cmpf .oge main_v17 main_v33
  let main_v35 : IVec S2x528 1 := andi main_v32 main_v34
  let main_cst_6 : FVec F S_ .f32 := constant S_ .f32 0x3F800000#32
  let main_v36 : FVec F S2x528 .f32 := broadcastInDim S2x528 ![] bcast_S_S2x528 main_cst_6
  let main_v37 : IVec S2x528 1 := cmpf .ole main_v17 main_v36
  let main_v38 : IVec S2x528 1 := andi main_v35 main_v37
  fn_part2 (F := F) main_v2 main_v22 main_v25 main_v38

def fn {F : FTy → Type} [FloatOps F] (main_arg0 : FVec F S2x528x49152 .f32) (main_arg1 : FVec F S2x528x128 .f32) (main_arg2 : FVec F S2x528x128 .f32) (main_arg3 : FVec F S2x528x128 .f32) (main_arg4 : FVec F S1024x49152 .fp8e4m3) (main_arg5 : FVec F S16x49152 .bf16) (main_arg6 : IVec S_ 32) : IVec S_ 1 × IVec S2x528x32 1 × IVec S2x528 1 :=
  let main_v0 : IVec S2x528 32 := iotaInDim S2x528 32 0
  let main_v1 : IVec S2x528 32 := broadcastInDim S2x528 ![] bcast_S_S2x528 main_arg6
  let main_v2 : IVec S2x528 1 := cmpi .sge main_v0 main_v1
  let main_v3 : FVec F S2x528x1 .f32 := (extractStridedSlice S2x528x1 ![0, 0, 0] · slices_S2x528x128_S2x528x1_0_0_0) main_arg1
  let main_v4 : IVec S2x528x1 32 := fptosi 32 main_v3
  let main_v5 : IVec S2x528x49152 32 := iotaInDim S2x528x49152 32 2
  let main_v6 : IVec S2x528x49152 32 := broadcastInDim S2x528x49152 ![0, 1, 2] bcast_S2x528x1_S2x528x49152_0_1_2 main_v4
  let main_v7 : IVec S2x528x49152 1 := cmpi .eq main_v5 main_v6
  let main_cst : FVec F S_ .f32 := constant S_ .f32 0xFF800000#32
  let main_v8 : FVec F S2x528x49152 .f32 := broadcastInDim S2x528x49152 ![] bcast_S_S2x528x49152 main_cst
  let main_v9 : FVec F S2x528x49152 .f32 := select main_v7 main_v8 main_arg0
  let main_v10 : FVec F S2x528x32x1536 .f32 := shapeCast S2x528x32x1536 main_v9 shapeCasts_S2x528x49152_S2x528x32x1536
  let main_cst_0 : FVec F S_ .f32 := constant S_ .f32 0xFF800000#32
  let main_v11 : FVec F S2x528x32 .f32 := (fun x v => Host.reduce FloatOps.maximumf x v reducesTo_S2x528x32x1536_S2x528x32_d3 h_S_) main_v10 main_cst_0
  let main_cst_1 : FVec F S_ .f32 := constant S_ .f32 0x00000000#32
  let main_v12 : FVec F S2x528x49152 .f32 := broadcastInDim S2x528x49152 ![] bcast_S_S2x528x49152 main_cst_1
  let main_v13 : FVec F S2x528x49152 .f32 := select main_v7 main_arg0 main_v12
  let main_cst_2 : FVec F S_ .f32 := constant S_ .f32 0x00000000#32
  let main_v14 : FVec F S2x528 .f32 := (fun x v => Host.reduceAdd x v reducesTo_S2x528x49152_S2x528_d2 h_S_) main_v13 main_cst_2
  let main_cst_3 : FVec F S_ .f32 := constant S_ .f32 0xFF800000#32
  let main_v15 : FVec F S2x528 .f32 := (fun x v => Host.reduce FloatOps.maximumf x v reducesTo_S2x528x49152_S2x528_d2 h_S_) main_arg0 main_cst_3
  let main_v16 : FVec F S2x528x1 .f32 := (extractStridedSlice S2x528x1 ![0, 0, 1] · slices_S2x528x128_S2x528x1_0_0_1) main_arg1
  let main_v17 : FVec F S2x528 .f32 := shapeCast S2x528 main_v16 shapeCasts_S2x528x1_S2x528
  let main_v18 : IVec S2x528x1 1 := broadcastInDim S2x528x1 ![0, 1] bcast_S2x528_S2x528x1_0_1 main_v2
  fn_part1 (F := F) main_arg2 main_arg3 main_arg6 main_v2 main_v11 main_v14 main_v15 main_v17 main_v18
-- ==== Pre_groups_bwd.lean ====
abbrev S2x528x49152 : Shape := ⟨3, ![2, 528, 49152]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩

class Facts : Prop where

variable [Facts]

def fn {F : FTy → Type} [FloatOps F] (main_arg0 : FVec F S2x528x49152 .f32) (main_arg1 : FVec F S2x528x128 .f32) (main_arg2 : FVec F S2x528x128 .f32) (main_arg3 : FVec F S2x528x128 .f32) (main_arg4 : FVec F S1024x49152 .fp8e4m3) (main_arg5 : FVec F S16x49152 .bf16) (main_arg6 : IVec S_ 32) : IVec S_ 1 :=
  let main_c : IVec S_ 32 := constantI S_ 32 0#32
  let main_v0 : IVec S_ 1 := cmpi .sge main_arg6 main_c
  let main_c_0 : IVec S_ 32 := constantI S_ 32 2#32
  let main_v1 : IVec S_ 1 := cmpi .sle main_arg6 main_c_0
  let main_v2 : IVec S_ 1 := andi main_v0 main_v1
  main_v2
-- ==== Pre_groups_fwd.lean ====
abbrev S2x528x1024 : Shape := ⟨3, ![2, 528, 1024]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩

class Facts : Prop where

variable [Facts]

def fn {F : FTy → Type} [FloatOps F] (main_arg0 : FVec F S2x528x1024 .bf16) (main_arg1 : FVec F S2x528x128 .f32) (main_arg2 : FVec F S1024x49152 .fp8e4m3) (main_arg3 : FVec F S16x49152 .bf16) (main_arg4 : IVec S_ 32) : IVec S_ 1 :=
  let main_c : IVec S_ 32 := constantI S_ 32 0#32
  let main_v0 : IVec S_ 1 := cmpi .sge main_arg4 main_c
  let main_c_0 : IVec S_ 32 := constantI S_ 32 2#32
  let main_v1 : IVec S_ 1 := cmpi .sle main_arg4 main_c_0
  let main_v2 : IVec S_ 1 := andi main_v0 main_v1
  main_v2
-- ==== Fwd.lean ====
abbrev S2x528x1024 : Shape := ⟨3, ![2, 528, 1024]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩
abbrev S2x528x49152 : Shape := ⟨3, ![2, 528, 49152]⟩
abbrev S1x528x1024 : Shape := ⟨3, ![1, 528, 1024]⟩
abbrev S1x528x128 : Shape := ⟨3, ![1, 528, 128]⟩
abbrev S1024x1536 : Shape := ⟨2, ![1024, 1536]⟩
abbrev S16x1536 : Shape := ⟨2, ![16, 1536]⟩
abbrev S1x528x1536 : Shape := ⟨3, ![1, 528, 1536]⟩
abbrev S528x1 : Shape := ⟨2, ![528, 1]⟩
abbrev S528x128 : Shape := ⟨2, ![528, 128]⟩
abbrev S528x1024 : Shape := ⟨2, ![528, 1024]⟩
abbrev S16x64x1536 : Shape := ⟨3, ![16, 64, 1536]⟩
abbrev S16x1x1536 : Shape := ⟨3, ![16, 1, 1536]⟩
abbrev S528x1536 : Shape := ⟨2, ![528, 1536]⟩
abbrev S528 : Shape := ⟨1, ![528]⟩

abbrev nBuf : Space → Nat
  | .hbm => 7
  | .vmem => 17
  | .smem => 1
  | _ => 0

abbrev bufTy : (tb : Table) → Fin (tcTables nBuf tb) → BufTy
  | .hbm, ⟨0, _⟩ => ⟨S2x528x1024, .bf16⟩
  | .hbm, ⟨1, _⟩ => ⟨S2x528x128, .f32⟩
  | .hbm, ⟨2, _⟩ => ⟨S1024x49152, .fp8e4m3⟩
  | .hbm, ⟨3, _⟩ => ⟨S16x49152, .bf16⟩
  | .hbm, ⟨4, _⟩ => ⟨S2x528x49152, .f32⟩
  | .hbm, ⟨5, _⟩ => ⟨S2x528x128, .f32⟩
  | .hbm, ⟨6, _⟩ => ⟨S2x528x128, .f32⟩
  | .local _ .vmem, ⟨0, _⟩ => ⟨S1x528x1024, .bf16⟩
  | .local _ .vmem, ⟨1, _⟩ => ⟨S1x528x1024, .bf16⟩
  | .local _ .vmem, ⟨2, _⟩ => ⟨S1x528x128, .f32⟩
  | .local _ .vmem, ⟨3, _⟩ => ⟨S1x528x128, .f32⟩
  | .local _ .vmem, ⟨4, _⟩ => ⟨S1024x1536, .fp8e4m3⟩
  | .local _ .vmem, ⟨5, _⟩ => ⟨S1024x1536, .fp8e4m3⟩
  | .local _ .vmem, ⟨6, _⟩ => ⟨S16x1536, .bf16⟩
  | .local _ .vmem, ⟨7, _⟩ => ⟨S16x1536, .bf16⟩
  | .local _ .vmem, ⟨8, _⟩ => ⟨S1x528x1536, .f32⟩
  | .local _ .vmem, ⟨9, _⟩ => ⟨S1x528x1536, .f32⟩
  | .local _ .vmem, ⟨10, _⟩ => ⟨S1x528x128, .f32⟩
  | .local _ .vmem, ⟨11, _⟩ => ⟨S1x528x128, .f32⟩
  | .local _ .vmem, ⟨12, _⟩ => ⟨S1x528x128, .f32⟩
  | .local _ .vmem, ⟨13, _⟩ => ⟨S1x528x128, .f32⟩
  | .local _ .vmem, ⟨14, _⟩ => ⟨S528x1, .f32⟩
  | .local _ .vmem, ⟨15, _⟩ => ⟨S528x1, .f32⟩
  | .local _ .vmem, ⟨16, _⟩ => ⟨S528x1, .f32⟩
  | .local _ .smem, ⟨0, _⟩ => ⟨S_, .i32⟩
  | _, _ => ⟨S2x528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![0, 32], ![true, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def dynb0 (pf : pre0.Contents (Elt F)) : grid0.Bounds := ![(pf 0 fun a => a.elim0).toNat, 32]

def k0_cond2 (i : grid0.Static) : BitVec 1 :=
  let arg1 : BitVec 32 := BitVec.ofNat 32 (i 1).val
  let c31_i32 : BitVec 32 := 31#32
  let v76 : BitVec 1 := Scalar.cmpi .eq arg1 c31_i32
  let v77 : BitVec 32 := Scalar.extui v76
  let c0_i32_38 : BitVec 32 := 0#32
  let v78 : BitVec 1 := Scalar.cmpi .ne v77 c0_i32_38
  v78

def cc0_transform_0 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x528x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x528x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x528x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FwdIdeal.lean ====
variable {F : FTy → Type} [FloatOps F] [Named F]
def κ : String → Option EReal := fun
  | "log2e" => some (((Real.log 2)⁻¹ : ℝ) : EReal)
  | _ => none
-- ==== FwdRefIdeal.lean ====
abbrev S2x528x1024 : Shape := ⟨3, ![2, 528, 1024]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩
abbrev S2x528x49152 : Shape := ⟨3, ![2, 528, 49152]⟩
abbrev S1056x128 : Shape := ⟨2, ![1056, 128]⟩
abbrev S1056x1 : Shape := ⟨2, ![1056, 1]⟩
abbrev S16x64x49152 : Shape := ⟨3, ![16, 64, 49152]⟩
abbrev S16x1x49152 : Shape := ⟨3, ![16, 1, 49152]⟩
abbrev S1056x1024 : Shape := ⟨2, ![1056, 1024]⟩
abbrev S1056x49152 : Shape := ⟨2, ![1056, 49152]⟩
abbrev S1056 : Shape := ⟨1, ![1056]⟩
abbrev S1056x32x1536 : Shape := ⟨3, ![1056, 32, 1536]⟩
abbrev S1056x32 : Shape := ⟨2, ![1056, 32]⟩
abbrev S1056x96 : Shape := ⟨2, ![1056, 96]⟩

abbrev nBuf : Space → Nat
  | .hbm => 8
  | .vmem => 7
  | .smem => 0
  | _ => 0

abbrev bufTy : (tb : Table) → Fin (tcTables nBuf tb) → BufTy
  | .hbm, ⟨0, _⟩ => ⟨S2x528x1024, .bf16⟩
  | .hbm, ⟨1, _⟩ => ⟨S2x528x128, .f32⟩
  | .hbm, ⟨2, _⟩ => ⟨S1024x49152, .fp8e4m3⟩
  | .hbm, ⟨3, _⟩ => ⟨S16x49152, .bf16⟩
  | .hbm, ⟨4, _⟩ => ⟨S_, .i32⟩
  | .hbm, ⟨5, _⟩ => ⟨S2x528x49152, .f32⟩
  | .hbm, ⟨6, _⟩ => ⟨S2x528x128, .f32⟩
  | .hbm, ⟨7, _⟩ => ⟨S2x528x128, .f32⟩
  | .local _ .vmem, ⟨0, _⟩ => ⟨S2x528x1024, .bf16⟩
  | .local _ .vmem, ⟨1, _⟩ => ⟨S2x528x128, .f32⟩
  | .local _ .vmem, ⟨2, _⟩ => ⟨S1024x49152, .fp8e4m3⟩
  | .local _ .vmem, ⟨3, _⟩ => ⟨S16x49152, .bf16⟩
  | .local _ .vmem, ⟨4, _⟩ => ⟨S2x528x49152, .f32⟩
  | .local _ .vmem, ⟨5, _⟩ => ⟨S2x528x128, .f32⟩
  | .local _ .vmem, ⟨6, _⟩ => ⟨S2x528x128, .f32⟩
  | _, _ => ⟨S2x528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S2x528x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x528x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x49152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x49152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x528x49152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x528x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x528x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Bwd.lean ====
abbrev S2x528x49152 : Shape := ⟨3, ![2, 528, 49152]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩
abbrev S2x528x1024 : Shape := ⟨3, ![2, 528, 1024]⟩
abbrev S1x528x1536 : Shape := ⟨3, ![1, 528, 1536]⟩
abbrev S1x528x128 : Shape := ⟨3, ![1, 528, 128]⟩
abbrev S1024x1536 : Shape := ⟨2, ![1024, 1536]⟩
abbrev S16x1536 : Shape := ⟨2, ![16, 1536]⟩
abbrev S1x528x1024 : Shape := ⟨3, ![1, 528, 1024]⟩
abbrev S528x128 : Shape := ⟨2, ![528, 128]⟩
abbrev S528x1 : Shape := ⟨2, ![528, 1]⟩
abbrev S1x528x1 : Shape := ⟨3, ![1, 528, 1]⟩
abbrev S528 : Shape := ⟨1, ![528]⟩
abbrev S1x256 : Shape := ⟨2, ![1, 256]⟩
abbrev S528x256 : Shape := ⟨2, ![528, 256]⟩
abbrev S528x1536 : Shape := ⟨2, ![528, 1536]⟩
abbrev S528x1024 : Shape := ⟨2, ![528, 1024]⟩
abbrev S16x64x1536 : Shape := ⟨3, ![16, 64, 1536]⟩
abbrev S16x1x1536 : Shape := ⟨3, ![16, 1, 1536]⟩

abbrev nBuf : Space → Nat
  | .hbm => 8
  | .vmem => 16
  | .smem => 1
  | _ => 0

abbrev bufTy : (tb : Table) → Fin (tcTables nBuf tb) → BufTy
  | .hbm, ⟨0, _⟩ => ⟨S2x528x49152, .f32⟩
  | .hbm, ⟨1, _⟩ => ⟨S2x528x128, .f32⟩
  | .hbm, ⟨2, _⟩ => ⟨S2x528x128, .f32⟩
  | .hbm, ⟨3, _⟩ => ⟨S2x528x128, .f32⟩
  | .hbm, ⟨4, _⟩ => ⟨S1024x49152, .fp8e4m3⟩
  | .hbm, ⟨5, _⟩ => ⟨S16x49152, .bf16⟩
  | .hbm, ⟨6, _⟩ => ⟨S2x528x1024, .f32⟩
  | .hbm, ⟨7, _⟩ => ⟨S2x528x128, .f32⟩
  | .local _ .vmem, ⟨0, _⟩ => ⟨S1x528x1536, .f32⟩
  | .local _ .vmem, ⟨1, _⟩ => ⟨S1x528x1536, .f32⟩
  | .local _ .vmem, ⟨2, _⟩ => ⟨S1x528x128, .f32⟩
  | .local _ .vmem, ⟨3, _⟩ => ⟨S1x528x128, .f32⟩
  | .local _ .vmem, ⟨4, _⟩ => ⟨S1x528x128, .f32⟩
  | .local _ .vmem, ⟨5, _⟩ => ⟨S1x528x128, .f32⟩
  | .local _ .vmem, ⟨6, _⟩ => ⟨S1x528x128, .f32⟩
  | .local _ .vmem, ⟨7, _⟩ => ⟨S1x528x128, .f32⟩
  | .local _ .vmem, ⟨8, _⟩ => ⟨S1024x1536, .fp8e4m3⟩
  | .local _ .vmem, ⟨9, _⟩ => ⟨S1024x1536, .fp8e4m3⟩
  | .local _ .vmem, ⟨10, _⟩ => ⟨S16x1536, .bf16⟩
  | .local _ .vmem, ⟨11, _⟩ => ⟨S16x1536, .bf16⟩
  | .local _ .vmem, ⟨12, _⟩ => ⟨S1x528x1024, .f32⟩
  | .local _ .vmem, ⟨13, _⟩ => ⟨S1x528x1024, .f32⟩
  | .local _ .vmem, ⟨14, _⟩ => ⟨S1x528x128, .f32⟩
  | .local _ .vmem, ⟨15, _⟩ => ⟨S1x528x128, .f32⟩
  | .local _ .smem, ⟨0, _⟩ => ⟨S_, .i32⟩
  | _, _ => ⟨S2x528x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![0, 32], ![true, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def dynb0 (pf : pre0.Contents (Elt F)) : grid0.Bounds := ![(pf 0 fun a => a.elim0).toNat, 32]

def cc0_transform_0 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x528x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x528x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x528x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== BwdIdeal.lean ====
def κ : String → Option EReal := fun
  | "log2e" => some (((Real.log 2)⁻¹ : ℝ) : EReal)
  | _ => none
-- ==== BwdRefIdeal.lean ====
abbrev S2x528x49152 : Shape := ⟨3, ![2, 528, 49152]⟩
abbrev S2x528x128 : Shape := ⟨3, ![2, 528, 128]⟩
abbrev S1024x49152 : Shape := ⟨2, ![1024, 49152]⟩
abbrev S16x49152 : Shape := ⟨2, ![16, 49152]⟩
abbrev S_ : Shape := ⟨0, ![]⟩
abbrev S2x528x1024 : Shape := ⟨3, ![2, 528, 1024]⟩
abbrev S1056x128 : Shape := ⟨2, ![1056, 128]⟩
abbrev S1056x1 : Shape := ⟨2, ![1056, 1]⟩
abbrev S16x64x49152 : Shape := ⟨3, ![16, 64, 49152]⟩
abbrev S16x1x49152 : Shape := ⟨3, ![16, 1, 49152]⟩
abbrev S1056x49152 : Shape := ⟨2, ![1056, 49152]⟩
abbrev S1056x32x1536 : Shape := ⟨3, ![1056, 32, 1536]⟩
abbrev S1056x32 : Shape := ⟨2, ![1056, 32]⟩
abbrev S1056x32x1 : Shape := ⟨3, ![1056, 32, 1]⟩
abbrev S1056x1024 : Shape := ⟨2, ![1056, 1024]⟩
abbrev S1056x96 : Shape := ⟨2, ![1056, 96]⟩

abbrev nBuf : Space → Nat
  | .hbm => 9
  | .vmem => 7
  | .smem => 0
  | _ => 0

abbrev bufTy : (tb : Table) → Fin (tcTables nBuf tb) → BufTy
  | .hbm, ⟨0, _⟩ => ⟨S2x528x49152, .f32⟩
  | .hbm, ⟨1, _⟩ => ⟨S2x528x128, .f32⟩
  | .hbm, ⟨2, _⟩ => ⟨S2x528x128, .f32⟩
  | .hbm, ⟨3, _⟩ => ⟨S2x528x128, .f32⟩
  | .hbm, ⟨4, _⟩ => ⟨S1024x49152, .fp8e4m3⟩
  | .hbm, ⟨5, _⟩ => ⟨S16x49152, .bf16⟩
  | .hbm, ⟨6, _⟩ => ⟨S_, .i32⟩
  | .hbm, ⟨7, _⟩ => ⟨S2x528x1024, .f32⟩
  | .hbm, ⟨8, _⟩ => ⟨S2x528x128, .f32⟩
  | .local _ .vmem, ⟨0, _⟩ => ⟨S2x528x49152, .f32⟩
  | .local _ .vmem, ⟨1, _⟩ => ⟨S2x528x128, .f32⟩
  | .local _ .vmem, ⟨2, _⟩ => ⟨S2x528x128, .f32⟩
  | .local _ .vmem, ⟨3, _⟩ => ⟨S1024x49152, .fp8e4m3⟩
  | .local _ .vmem, ⟨4, _⟩ => ⟨S16x49152, .bf16⟩
  | .local _ .vmem, ⟨5, _⟩ => ⟨S2x528x1024, .f32⟩
  | .local _ .vmem, ⟨6, _⟩ => ⟨S2x528x128, .f32⟩
  | _, _ => ⟨S2x528x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S2x528x49152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x528x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x528x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x49152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x49152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x528x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x528x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Frames.lean ====
/-
  The frames of the forward vocabulary pass. The grid's first axis is a run-time count of groups; the precondition says that
  it is 0, 1 or 2, so a run is one of three, and each has its generated frame.
-/
module

public import proofs.«01_k».proof.Defs
public import proofs.«01_k».proof.Proof.Gen.Fwd.Flash
public import proofs.«01_k».proof.Proof.Gen.FwdIdeal.Flash
public import proofs.«01_k».proof.Proof.Gen.FwdRefIdeal.Frame
public import proofs.«01_k».proof.Proof.Gen.Pre_groups_fwd

@[expose] public section

noncomputable section

namespace Cert.Proof

open Idealize.ShloMosaic Idealize.ShloMosaic.TcCoe Idealize.SL.Sem

/-- A word between 0 and 2 (signed) is the word of a number below 3. -/
theorem group_count (v : BitVec 32)
    (h : IntOp.andi (IntOp.cmpi .sge v 0#32) (IntOp.cmpi .sle v 2#32) = 1#1) : ∃ ch : Fin 3, v = BitVec.ofNat 32 ch.val := by
  have hv : v.toNat < 3 := by
    revert h
    rw [IntOp.andi_eq_one]
    simp only [IntOp.cmpi]
    have ofBool_eq_one (p : Bool) : (BitVec.ofBool p = 1#1) ↔ p = true := by cases p <;> decide
    simp only [ofBool_eq_one, BitVec.sle, decide_eq_true_eq, BitVec.toInt, BitVec.toNat_ofNat]
    omega
  exact ⟨⟨v.toNat, hv⟩, by simp⟩

/-- The precondition, decoded: the count of groups is one of three words. -/
theorem groups_of_pre {F : FTy → Type} [FloatOps F] [Cert.Pre_groups_fwd.Facts]
    (a0 : FVec F Pre_groups_fwd.S2x528x1024 .bf16) (a1 : FVec F Pre_groups_fwd.S2x528x128 .f32)
    (a2 : FVec F Pre_groups_fwd.S1024x49152 .fp8e4m3) (a3 : FVec F Pre_groups_fwd.S16x49152 .bf16)
    (a4 : IVec Pre_groups_fwd.S_ 32) (h : Cert.Pre_groups_fwd.fn a0 a1 a2 a3 a4 = fun _ => 1#1) :
    ∃ ch : Fin 3, a4 = fun _ => BitVec.ofNat 32 ch.val := by
  let i0 : Pre_groups_fwd.S_.Idx := fun a => a.elim0
  obtain ⟨ch, hch⟩ := group_count (a4 i0) (congrFun h i0)
  refine ⟨ch, funext fun y => ?_⟩
  rw [show y = i0 from funext fun a => a.elim0, hch]

theorem pinned_fwd (m : (ℓ : Loc Fwd.nD Fwd.τ Fwd.sig) → Buf (Elt Bits) ℓ)
    (h : Cert.Pre_Fwd (hPre_groups_fwd := Cert.Pre_groups_fwd.Gen.facts) m) : ∃ ch, Cert.Fwd.Gen.Pinned ch m := by
  obtain ⟨ch, hch⟩ := groups_of_pre _ _ _ _ _ (h 0)
  exact ⟨ch, fun c => by rw [Subsingleton.elim c 0]; exact hch⟩

theorem pinned_fwdIdeal (m : (ℓ : Loc FwdIdeal.nD FwdIdeal.τ FwdIdeal.sig) → Buf (Elt Ideal) ℓ)
    (h : Cert.Pre_FwdIdeal (hPre_groups_fwd := Cert.Pre_groups_fwd.Gen.facts) m) : ∃ ch, Cert.FwdIdeal.Gen.Pinned ch m := by
  obtain ⟨ch, hch⟩ := groups_of_pre _ _ _ _ _ (h 0)
  exact ⟨ch, fun c => by rw [Subsingleton.elim c 0]; exact hch⟩

/-- The kernel runs, faults nowhere and leaves its arguments as they were. -/
theorem frame_fwd : Cert.quiescent_Fwd (hFwd := Cert.Fwd.Gen.facts) (hPre_groups_fwd := Cert.Pre_groups_fwd.Gen.facts) :=
  fun m ρ h => (pinned_fwd m h).elim fun ch hp => Cert.Fwd.Gen.frame ch m ρ hp

/-- So does the kernel over the extended reals. -/
theorem frame_fwdIdeal : Cert.quiescent_FwdIdeal (hFwdIdeal := Cert.FwdIdeal.Gen.facts) (hPre_groups_fwd := Cert.Pre_groups_fwd.Gen.facts) :=
  fun m ρ h => (pinned_fwdIdeal m h).elim fun ch hp => Cert.FwdIdeal.Gen.frame ch m ρ hp

/-- So does the reference over the extended reals. -/
theorem frame_fwdRefIdeal : Cert.quiescent_FwdRefIdeal (hFwdRefIdeal := Cert.FwdRefIdeal.Gen.facts) :=
  fun m ρ _ => Cert.FwdRefIdeal.Gen.frame m ρ

/-- The one rewrite of the ideal kernel: the constant 1.442695 reads as 1 / log 2. -/
theorem preserves_fwd : Cert.preserves_Fwd_FwdIdeal :=
  IdealRules.named_const.statement _ _ _ _ _ rfl

end Cert.Proof

end
-- ==== Proof.FwdPath.lean ====
/-
  What one point of the forward vocabulary pass leaves behind, as a function of what it found: the block of logits, the row of
  chunk maxima, the running maximum, the running sum and the picked logit; at the last chunk of a group also the statistics.
-/
module

public import proofs.«01_k».proof.Proof.Gen.FwdIdeal.Flash
public import Idealize.ShloMosaic.Lib.Pipeline.Value
public import Idealize.ShloMosaic.Lib.Pipeline.ValueKit.Acc

@[expose] public section

set_option maxRecDepth 16384

noncomputable section

namespace Cert.FwdIdeal.Path

open Cert.FwdIdeal Cert.FwdIdeal.Gen Idealize.ShloMosaic Idealize.ShloMosaic.TcCoe Idealize.SL.Sem
open Idealize.ShloMosaic.Pipeline (Dat)

variable (ch : Fin 3) (m : (ℓ : Loc nD τ sig) → Buf (Elt Ideal) ℓ) (ρ : Dev nD → PrngReg)

/-- What the later chunks read of the earlier ones: chunk maxima, running maximum, running sum, picked logit. -/
structure Carry where
  cm : Vec Ideal S1x528x128 .f32
  m : Vec Ideal S528x1 .f32
  l : Vec Ideal S528x1 .f32
  h : Vec Ideal S528x1 .f32

/-- The carried values before the first chunk of a group. -/
def Carry.init : Carry := ⟨k0_pay6 (F := Ideal), k0_pay3 (F := Ideal), k0_pay4 (F := Ideal), k0_pay5 (F := Ideal)⟩

/-- The carried values after one more chunk. -/
def Carry.next (i : grid0.Static) (x0 : Vec Ideal S1x528x1024 .bf16) (x1 : Vec Ideal S1x528x128 .f32)
    (x2 : Vec Ideal S1024x1536 .fp8e4m3) (x3 : Vec Ideal S16x1536 .bf16) (s : Carry) : Carry :=
  ⟨k0_pay13 (BitVec.ofNat 32 (i 1).val) (k0_pay8 x1 x0 x2 x3) (k0_pay10 i x1) s.cm,
    k0_pay1 (k0_pay14 (k0_pay8 x1 x0 x2 x3) s.m), k0_pay15 (k0_pay8 x1 x0 x2 x3) s.m s.l,
    k0_pay12 s.h (k0_pay11 i x1 x0 x2 x3)⟩

/-- The statistics written after the last chunk. -/
def Carry.stat (s : Carry) : Vec Ideal S1x528x128 .f32 :=
  k0_pay2 (iota .tc S528x128 32 [1] iota_S528x128_d1_w32) s.m s.l s.h

theorem hz2 : (![0, 0] : Fin 2 → Nat) = fun _ => 0 := funext fun a => by fin_cases a <;> rfl
theorem hz3 : (![0, 0, 0] : Fin 3 → Nat) = fun _ => 0 := funext fun a => by fin_cases a <;> rfl

/-- The buffers a point leaves, told of one carried value. -/
abbrev St (c : Dev nD) : Type := (S1x528x1536.Idx → Elt Ideal .f32) × (S1x528x128.Idx → Elt Ideal .f32) ×
  (S1x528x128.Idx → Elt Ideal .f32) × Buf (Elt Ideal) ((c : Thread nD τ).loc cc0_scratch0) ×
  Buf (Elt Ideal) ((c : Thread nD τ).loc cc0_scratch1) × Buf (Elt Ideal) ((c : Thread nD τ).loc cc0_scratch2)

/-- The carried values among the buffers. -/
def carry {c : Dev nD} (x : St c) : Carry := ⟨x.2.1, x.2.2.2.1, x.2.2.2.2.1, x.2.2.2.2.2⟩

/-- A whole scratch buffer after stores holds what reading it back gives. -/
theorem scr0 (L : List (View.Piece (Elt Ideal) S528x1 .f32)) :
    (View.whole cc0_scratch0).writes (Elt Ideal) (View.whole cc0_scratch0).junk L = View.canon L :=
  View.read_writes_junk_eq_canon (View.whole cc0_scratch0) L
theorem scr1 (L : List (View.Piece (Elt Ideal) S528x1 .f32)) :
    (View.whole cc0_scratch1).writes (Elt Ideal) (View.whole cc0_scratch1).junk L = View.canon L :=
  View.read_writes_junk_eq_canon (View.whole cc0_scratch1) L
theorem scr2 (L : List (View.Piece (Elt Ideal) S528x1 .f32)) :
    (View.whole cc0_scratch2).writes (Elt Ideal) (View.whole cc0_scratch2).junk L = View.canon L :=
  View.read_writes_junk_eq_canon (View.whole cc0_scratch2) L

/-- The carried values after point `t`'s chunk, from those before it. -/
abbrev nx (c : Dev nD) (t : Fin (cfgA ch).N) (s : Carry) : Carry :=
  s.next (iS ch t) (iblk ch m ρ c 0 t) (iblk ch m ρ c 1 t) (iblk ch m ρ c 2 t) (iblk ch m ρ c 3 t)

set_option maxHeartbeats 1000000 in
theorem carry_A (c : Dev nD) (t : Fin (cfgA ch).N) (prev : St c) (q0 : P0_0 ch t) :
    carry (step0 ch m ρ c t prev) = nx ch m ρ c t Carry.init := by
  rw [step0_A ch m ρ c t prev q0]
  unfold carry nx Carry.next Carry.init
  dsimp only
  refine congr (congr (congr (congrArg Carry.mk ?_) ?_) ?_) ?_
  · frame_out [View.read_rep]
    all_goals rfl
  · frame_out [View.read_rep, scr0]
    all_goals rfl
  · frame_out [View.read_rep, scr1]
    all_goals rfl
  · frame_out [View.read_rep, scr2]
    all_goals rfl

theorem u_A (c : Dev nD) (t : Fin (cfgA ch).N) (prev : St c) (q0 : P0_0 ch t) :
    (step0 ch m ρ c t prev).1 = k0_pay9 (iblk ch m ρ c 1 t) (iblk ch m ρ c 0 t) (iblk ch m ρ c 2 t) (iblk ch m ρ c 3 t) := by
  rw [step0_A ch m ρ c t prev q0]
  dsimp only
  frame_out [View.read_rep]
  all_goals rfl

set_option maxHeartbeats 1000000 in
theorem carry_B (c : Dev nD) (t : Fin (cfgA ch).N) (prev : St c) (q0 : ¬P0_0 ch t) (q1 : ¬P0_1 ch t) :
    carry (step0 ch m ρ c t prev) = nx ch m ρ c t (carry prev) := by
  rw [step0_B ch m ρ c t prev q0 q1]
  unfold carry nx Carry.next
  dsimp only
  congr 1
  · frame_out [View.read_rep]
    all_goals rfl
  · frame_out [View.read_rep, scr0]
    all_goals rfl
  · frame_out [View.read_rep, scr1]
    all_goals rfl
  · frame_out [View.read_rep, scr2]
    all_goals rfl

theorem u_B (c : Dev nD) (t : Fin (cfgA ch).N) (prev : St c) (q0 : ¬P0_0 ch t) (q1 : ¬P0_1 ch t) :
    (step0 ch m ρ c t prev).1 = k0_pay9 (iblk ch m ρ c 1 t) (iblk ch m ρ c 0 t) (iblk ch m ρ c 2 t) (iblk ch m ρ c 3 t) := by
  rw [step0_B ch m ρ c t prev q0 q1]
  dsimp only
  frame_out [View.read_rep]
  all_goals rfl

set_option maxHeartbeats 1000000 in
theorem carry_C (c : Dev nD) (t : Fin (cfgA ch).N) (prev : St c) (q0 : ¬P0_0 ch t) (q1 : P0_1 ch t) :
    carry (step0 ch m ρ c t prev) = nx ch m ρ c t (carry prev) := by
  rw [step0_C ch m ρ c t prev q0 q1]
  unfold carry nx Carry.next
  dsimp only
  congr 1
  · frame_out [View.read_rep]
    all_goals rfl
  · frame_out [View.read_rep, scr0]
    all_goals rfl
  · frame_out [View.read_rep, scr1]
    all_goals rfl
  · frame_out [View.read_rep, scr2]
    all_goals rfl

theorem u_C (c : Dev nD) (t : Fin (cfgA ch).N) (prev : St c) (q0 : ¬P0_0 ch t) (q1 : P0_1 ch t) :
    (step0 ch m ρ c t prev).1 = k0_pay9 (iblk ch m ρ c 1 t) (iblk ch m ρ c 0 t) (iblk ch m ρ c 2 t) (iblk ch m ρ c 3 t) := by
  rw [step0_C ch m ρ c t prev q0 q1]
  dsimp only
  frame_out [View.read_rep]
  all_goals rfl

set_option maxHeartbeats 1000000 in
theorem stat_C (c : Dev nD) (t : Fin (cfgA ch).N) (prev : St c) (q0 : ¬P0_0 ch t) (q1 : P0_1 ch t) :
    (step0 ch m ρ c t prev).2.2.1 = (nx ch m ρ c t (carry prev)).stat := by
  rw [step0_C ch m ρ c t prev q0 q1]
  unfold carry nx Carry.next Carry.stat
  dsimp only
  frame_out [View.read_rep]
  all_goals rfl

end Cert.FwdIdeal.Path

end
-- ==== Proof.FwdMath.lean ====
/- The arithmetic of one row of the forward pass over the extended reals: the running maximum and the running sum of
   powers of two, chunk after chunk, are the maximum and the sum over all columns. -/
module

public import Idealize.ShloMosaic.PureOps.Ideal

@[expose] public section

noncomputable section

namespace Cert.FwdMath

open Idealize.ShloMosaic Finset

/-- The logarithm of e to the base two. -/
def L : EReal := ((Real.log 2)⁻¹ : ℝ)

theorem L_pos : (0 : ℝ) < (Real.log 2)⁻¹ := inv_pos.2 (Real.log_pos (by norm_num))
theorem L_nonneg : 0 ≤ L := EReal.coe_nonneg.2 L_pos.le
theorem L_ne_top : L ≠ ⊤ := EReal.coe_ne_top _
theorem bot_mul_L : (⊥ : EReal) * L = ⊥ := EReal.bot_mul_coe_of_pos L_pos
theorem top_mul_L : (⊤ : EReal) * L = ⊤ := EReal.top_mul_coe_of_pos L_pos
theorem add_mul_L (a b : EReal) : (a + b) * L = a * L + b * L :=
  EReal.right_distrib_of_nonneg_of_ne_top L_nonneg L_ne_top a b
theorem mono_L : Monotone fun x : EReal => x * L := fun _ _ h => mul_le_mul_of_nonneg_right h L_nonneg

theorem sum_mul_L {ι : Type} (s : Finset ι) (f : ι → EReal) : (∑ i ∈ s, f i) * L = ∑ i ∈ s, f i * L := by
  classical
  induction s using Finset.induction_on with
  | empty => simp
  | insert a s ha ih => rw [sum_insert ha, sum_insert ha, add_mul_L, ih]

theorem sup_mul_L {ι : Type} (s : Finset ι) (f : ι → EReal) : (s.sup f) * L = s.sup fun i => f i * L :=
  Finset.comp_sup_eq_sup_comp (fun x : EReal => x * L) (fun a b => mono_L.map_sup a b) bot_mul_L

theorem exp2_nonneg (x : EReal) : 0 ≤ Ideal.exp2 x := by
  induction x using EReal.rec with
  | bot => simp
  | top => simp
  | coe r => rw [Ideal.exp2_coe]; exact EReal.coe_nonneg.2 (Real.rpow_nonneg (by norm_num) _)

theorem sum_mul_nonneg {ι : Type} (s : Finset ι) (f : ι → EReal) (hf : ∀ i ∈ s, 0 ≤ f i) (x : EReal) :
    (∑ i ∈ s, f i) * x = ∑ i ∈ s, f i * x := by
  classical
  induction s using Finset.induction_on with
  | empty => simp
  | insert a s ha ih =>
    have h : ∀ i ∈ s, 0 ≤ f i := fun i hi => hf i (mem_insert_of_mem hi)
    rw [sum_insert ha, sum_insert ha, EReal.right_distrib_of_nonneg (hf a (mem_insert_self a s)) (sum_nonneg h), ih h]

theorem sub_top' (x : EReal) : x - ⊤ = ⊥ := by rw [sub_eq_add_neg, EReal.neg_top, EReal.add_bot]
theorem bot_sub' (x : EReal) : ⊥ - x = ⊥ := by rw [sub_eq_add_neg, EReal.bot_add]

/-- Moving the reference point of a power of two from one upper bound to a larger one. -/
theorem exp2_shift {u m m' : EReal} (h : u ≤ m) (h' : m ≤ m') :
    Ideal.exp2 (u - m) * Ideal.exp2 (m - m') = Ideal.exp2 (u - m') := by
  induction m' using EReal.rec with
  | top => rw [sub_top', sub_top', Ideal.exp2_bot, mul_zero]
  | bot =>
    obtain rfl := le_bot_iff.1 h'
    obtain rfl := le_bot_iff.1 h
    rw [bot_sub', Ideal.exp2_bot, mul_zero]
  | coe b =>
    induction m using EReal.rec with
    | top => exact absurd h' (by simp)
    | bot =>
      obtain rfl := le_bot_iff.1 h
      rw [bot_sub', bot_sub', Ideal.exp2_bot, mul_zero]
    | coe a =>
      induction u using EReal.rec with
      | top => exact absurd h (by simp)
      | bot => rw [bot_sub', bot_sub', Ideal.exp2_bot, zero_mul]
      | coe x =>
        rw [← EReal.coe_sub, ← EReal.coe_sub, ← EReal.coe_sub, Ideal.exp2_coe, Ideal.exp2_coe, Ideal.exp2_coe,
          ← EReal.coe_mul, Real.rpow_eq_pow, Real.rpow_eq_pow, Real.rpow_eq_pow, ← Real.rpow_add (by norm_num)]
        congr 2; ring

/-- A power of two of the scaled logits is the exponential of the logits. -/
theorem exp2_scaled {z t : EReal} (h : z ≤ t) : Ideal.exp2 (z * L - t * L) = Ideal.exp (z - t) := by
  induction t using EReal.rec with
  | top => rw [top_mul_L, sub_top', sub_top', Ideal.exp2_bot, Ideal.exp_bot]
  | bot =>
    obtain rfl := le_bot_iff.1 h
    rw [bot_mul_L, bot_sub', Ideal.exp2_bot, Ideal.exp_bot]
  | coe b =>
    induction z using EReal.rec with
    | top => exact absurd h (by simp)
    | bot => rw [bot_mul_L, bot_sub', bot_sub', Ideal.exp2_bot, Ideal.exp_bot]
    | coe a =>
      unfold L
      rw [← EReal.coe_mul, ← EReal.coe_mul, ← EReal.coe_sub, ← EReal.coe_sub, Ideal.exp2_coe, Ideal.exp_coe,
        Real.rpow_eq_pow, Real.rpow_def_of_pos (by norm_num)]
      have h2 : Real.log 2 ≠ 0 := (Real.log_pos (by norm_num)).ne'
      congr 2; field_simp

/-! ## The running values -/

variable (u : ℕ → Fin 1536 → EReal)

/-- The maximum over the first `n` chunks. -/
def top (n : ℕ) : EReal := (range n).sup fun k => univ.sup (u k)
/-- The sum of the powers of two over the first `n` chunks, taken off that maximum. -/
def tot (n : ℕ) : EReal := ∑ k ∈ range n, ∑ l, Ideal.exp2 (u k l - top u n)

theorem top_zero : top u 0 = ⊥ := by simp [top]
theorem tot_zero : tot u 0 = 0 := by simp [tot]
theorem top_succ (n : ℕ) : top u (n + 1) = max (top u n) (univ.sup (u n)) := by
  unfold top; rw [range_add_one, sup_insert, sup_comm]
theorem le_top {n k : ℕ} (h : k < n) (l : Fin 1536) : u k l ≤ top u n :=
  (le_sup (f := u k) (mem_univ l)).trans (le_sup (f := fun k => univ.sup (u k)) (mem_range.2 h))

theorem tot_succ (n : ℕ) : tot u (n + 1)
    = tot u n * Ideal.exp2 (top u n - top u (n + 1)) + ∑ l, Ideal.exp2 (u n l - top u (n + 1)) := by
  unfold tot
  rw [sum_range_succ]
  congr 1
  rw [sum_mul_nonneg _ _ fun k _ => sum_nonneg fun l _ => exp2_nonneg _]
  refine sum_congr rfl fun k hk => ?_
  rw [sum_mul_nonneg _ _ fun l _ => exp2_nonneg _]
  refine sum_congr rfl fun l _ => (exp2_shift (le_top u (mem_range.1 hk) l) ?_).symm
  rw [top_succ]; exact le_max_left _ _

/-! ## All columns at once -/

/-- Column `l` of chunk `k`. -/
def col (k : Fin 32) (l : Fin 1536) : Fin 49152 := ⟨k.val * 1536 + l.val, by omega⟩

theorem sum_cols (f : Fin 49152 → EReal) : ∑ j, f j = ∑ k, ∑ l, f (col k l) := by
  rw [← Fintype.sum_prod_type' (f := fun k l => f (col k l))]
  refine (Fintype.sum_equiv (finProdFinEquiv (m := 32) (n := 1536)) _ _ fun x => ?_).symm
  congr 1
  exact Fin.ext (by simp [col, finProdFinEquiv]; ring)

theorem sup_cols (f : Fin 49152 → EReal) : univ.sup f = univ.sup fun k => univ.sup fun l => f (col k l) := by
  apply le_antisymm
  · refine Finset.sup_le fun j _ => ?_
    have hj : j = col ⟨j.val / 1536, by omega⟩ ⟨j.val % 1536, Nat.mod_lt _ (by norm_num)⟩ :=
      Fin.ext (by simp only [col]; omega)
    rw [hj]
    exact (le_sup (f := fun l => f (col _ l)) (mem_univ _)).trans (le_sup (f := fun k => univ.sup fun l => f (col k l)) (mem_univ _))
  · exact Finset.sup_le fun k _ => Finset.sup_le fun l _ => le_sup (f := f) (mem_univ _)

theorem sum_range_chunks (f : ℕ → EReal) : ∑ k ∈ range 32, f k = ∑ k : Fin 32, f k.val := (Fin.sum_univ_eq_sum_range f 32).symm
theorem sup_range_chunks (f : ℕ → EReal) : (range 32).sup f = univ.sup fun k : Fin 32 => f k.val := by
  apply le_antisymm
  · exact Finset.sup_le fun k hk => le_sup (f := fun k : Fin 32 => f k.val) (mem_univ ⟨k, mem_range.1 hk⟩)
  · exact Finset.sup_le fun k _ => le_sup (f := f) (mem_range.2 k.isLt)

variable {u} (z : Fin 49152 → EReal) (hu : ∀ (k : Fin 32) (l : Fin 1536), u k.val l = z (col k l) * L)
include hu

theorem top_all : top u 32 = univ.sup z * L := by
  unfold top
  rw [sup_range_chunks, sup_cols, sup_mul_L]
  refine sup_congr rfl fun k _ => ?_
  rw [sup_mul_L]
  exact sup_congr rfl fun l _ => hu k l

theorem tot_all : tot u 32 = ∑ j, Ideal.exp (z j - univ.sup z) := by
  unfold tot
  rw [sum_range_chunks, sum_cols]
  refine sum_congr rfl fun k _ => sum_congr rfl fun l _ => ?_
  rw [hu, top_all z hu, exp2_scaled (le_sup (mem_univ _))]

/-- The running values end at the logarithm of the sum of exponentials, to the base two. -/
theorem lse_all : top u 32 + Ideal.log (tot u 32) * L
    = (univ.sup z + Ideal.log (∑ j, Ideal.exp (z j - univ.sup z))) * L := by
  rw [add_mul_L, top_all z hu, tot_all z hu]

/-- The running sum at the label ends at the label's logit, to the base two. -/
theorem hit_all (p : ℕ → Fin 1536 → Prop) (q : Fin 49152 → Prop) [∀ k l, Decidable (p k l)] [∀ j, Decidable (q j)]
    (h : ∀ (k : Fin 32) l, p k.val l ↔ q (col k l)) :
    ∑ k ∈ range 32, ∑ l, (if p k l then u k l else 0) = (∑ j, if q j then z j else 0) * L := by
  rw [sum_range_chunks, sum_mul_L, sum_cols]
  refine sum_congr rfl fun k _ => sum_congr rfl fun l _ => ?_
  by_cases hq : q (col k l)
  · rw [if_pos ((h k l).2 hq), if_pos hq, hu]
  · rw [if_neg fun e => hq ((h k l).1 e), if_neg hq, zero_mul]

/-- A chunk's maximum without the label is the reference's, to the base two. -/
theorem rest_all (k : Fin 32) (p : Fin 1536 → Prop) (q : Fin 49152 → Prop) [∀ l, Decidable (p l)] [∀ j, Decidable (q j)]
    (h : ∀ l, p l ↔ q (col k l)) :
    univ.sup (fun l => if p l then ⊥ else u k.val l) = univ.sup (fun l => if q (col k l) then ⊥ else z (col k l)) * L := by
  rw [sup_mul_L]
  refine sup_congr rfl fun l _ => ?_
  by_cases hq : q (col k l)
  · rw [if_pos ((h l).2 hq), if_pos hq, bot_mul_L]
  · rw [if_neg fun e => hq ((h l).1 e), if_neg hq, hu]

omit hu
/-- The label falls on a chunk's column exactly when it falls on that column of the whole. -/
theorem hit_iff (x : BitVec 32) (k : Fin 32) (l : Fin 1536) :
    (BitVec.ofNat 32 l.val = x - BitVec.ofNat 32 k.val * 1536#32) ↔ BitVec.ofNat 32 (col k l).val = x := by
  have e : BitVec.ofNat 32 (col k l).val = BitVec.ofNat 32 k.val * 1536#32 + BitVec.ofNat 32 l.val := by
    simp only [col, BitVec.ofNat_add, BitVec.ofNat_mul]
  rw [e]
  constructor
  · rintro h; rw [h, BitVec.add_comm, BitVec.sub_add_cancel]
  · rintro rfl; rw [BitVec.add_comm, BitVec.add_sub_cancel]

end Cert.FwdMath

end
-- ==== Proof.FwdGeom.lean ====
/- Where the forward kernel's blocks sit in its arrays, at every point of the grid. -/
module

public import proofs.«01_k».proof.Proof.FwdPath
public import Idealize.ShloMosaic.Lib.Pipeline.ValueKit.Geometry
public import Idealize.ShloMosaic.Lib.Pointwise
public import proofs.«01_k».proof.Proof.FwdMath

@[expose] public section

set_option maxRecDepth 16384

noncomputable section

namespace Cert.FwdIdeal.Geom

open Cert.FwdIdeal Cert.FwdIdeal.Gen Idealize.ShloMosaic Idealize.ShloMosaic.TcCoe Idealize.SL.Sem
open Idealize.ShloMosaic.Pipeline (Dat Window)

variable (ch : Fin 3) (m : (ℓ : Loc nD τ sig) → Buf (Elt Ideal) ℓ) (ρ : Dev nD → PrngReg)

/-- The grid has 32 points for each group. -/
theorem points : ∀ ch : Fin 3, (cfgA ch).N = ch.val * 32 := by decide +kernel

/-- A point's chunk and group. -/
theorem coords : ∀ (ch : Fin 3) (t : Fin (cfgA ch).N), ((iS ch t) 1).val = t.val % 32
    ∧ (P0_0 ch t ↔ t.val % 32 = 0) ∧ (P0_1 ch t ↔ t.val % 32 = 31) := by decide +kernel

theorem index0 : ∀ (ch : Fin 3) (t : Fin (cfgA ch).N), ((cfgA ch).win (0 : Fin 7)).index t = ![t.val / 32, 0, 0] := by decide +kernel
theorem index1 : ∀ (ch : Fin 3) (t : Fin (cfgA ch).N), ((cfgA ch).win (1 : Fin 7)).index t = ![t.val / 32, 0, 0] := by decide +kernel
theorem index2 : ∀ (ch : Fin 3) (t : Fin (cfgA ch).N), ((cfgA ch).win (2 : Fin 7)).index t = ![0, t.val % 32] := by decide +kernel
theorem index3 : ∀ (ch : Fin 3) (t : Fin (cfgA ch).N), ((cfgA ch).win (3 : Fin 7)).index t = ![0, t.val % 32] := by decide +kernel
theorem index4 : ∀ (ch : Fin 3) (t : Fin (cfgA ch).N), ((cfgA ch).win (4 : Fin 7)).index t = ![t.val / 32, 0, t.val % 32] := by decide +kernel
theorem index5 : ∀ (ch : Fin 3) (t : Fin (cfgA ch).N), ((cfgA ch).win (5 : Fin 7)).index t = ![t.val / 32, 0, 0] := by decide +kernel
theorem index6 : ∀ (ch : Fin 3) (t : Fin (cfgA ch).N), ((cfgA ch).win (6 : Fin 7)).index t = ![t.val / 32, 0, 0] := by decide +kernel
theorem flush4 : ∀ (ch : Fin 3) (t : Fin (cfgA ch).N), ((cfgA ch).win (4 : Fin 7)).flush t = true := by decide +kernel
theorem flush5 : ∀ (ch : Fin 3) (t : Fin (cfgA ch).N), ((cfgA ch).win (5 : Fin 7)).flush t = decide (t.val % 32 = 31) := by decide +kernel
theorem flush6 : ∀ (ch : Fin 3) (t : Fin (cfgA ch).N), ((cfgA ch).win (6 : Fin 7)).flush t = decide (t.val % 32 = 31) := by decide +kernel

/-- The group a point works on. -/
def grp (t : Fin (cfgA ch).N) : Fin 2 := ⟨t.val / 32, by have h := t.isLt; have p := points ch; have := ch.isLt; omega⟩
/-- The chunk a point works on. -/
def chunk (t : Fin (cfgA ch).N) : Fin 32 := ⟨t.val % 32, Nat.mod_lt _ (by norm_num)⟩

theorem iblk0_at (c : Dev nD) (t : Fin (cfgA ch).N) (r : Fin 528) (x : Fin 1024) :
    (iblk ch m ρ c 0 t : Vec Ideal S1x528x1024 .bf16) (ix3 0 r x) = m ((c : Thread nD τ).loc main_arg0) (ix3 (grp ch t) r x) := by
  show m ((c : Thread nD τ).loc main_arg0) ((((cfgA ch).win (0 : Fin 7)).blk t).view.emb (ix3 0 r x)) = _
  congr 1
  show (((cfgA ch).win (0 : Fin 7)).rect t).emb (ix3 0 r x) = _
  funext a
  apply Fin.ext
  rw [Window.rect_emb_val _ _ _ _ rfl, index0]
  fin_cases a
  · show t.val / 32 * 1 + 0 = t.val / 32; omega
  · show 0 * 528 + r.val = r.val; omega
  · show 0 * 1024 + x.val = x.val; omega

theorem iblk1_at (c : Dev nD) (t : Fin (cfgA ch).N) (r : Fin 528) (x : Fin 128) :
    (iblk ch m ρ c 1 t : Vec Ideal S1x528x128 .f32) (ix3 0 r x) = m ((c : Thread nD τ).loc main_arg1) (ix3 (grp ch t) r x) := by
  show m ((c : Thread nD τ).loc main_arg1) ((((cfgA ch).win (1 : Fin 7)).blk t).view.emb (ix3 0 r x)) = _
  congr 1
  show (((cfgA ch).win (1 : Fin 7)).rect t).emb (ix3 0 r x) = _
  funext a
  apply Fin.ext
  rw [Window.rect_emb_val _ _ _ _ rfl, index1]
  fin_cases a
  · show t.val / 32 * 1 + 0 = t.val / 32; omega
  · show 0 * 528 + r.val = r.val; omega
  · show 0 * 128 + x.val = x.val; omega

theorem iblk2_at (c : Dev nD) (t : Fin (cfgA ch).N) (x : Fin 1024) (l : Fin 1536) :
    (iblk ch m ρ c 2 t : Vec Ideal S1024x1536 .fp8e4m3) (ix2 x l) = m ((c : Thread nD τ).loc main_arg2) (ix2 x (Cert.FwdMath.col (chunk ch t) l)) := by
  show m ((c : Thread nD τ).loc main_arg2) ((((cfgA ch).win (2 : Fin 7)).blk t).view.emb (ix2 x l)) = _
  congr 1
  show (((cfgA ch).win (2 : Fin 7)).rect t).emb (ix2 x l) = _
  funext a
  apply Fin.ext
  rw [Window.rect_emb_val _ _ _ _ rfl, index2]
  fin_cases a
  · show 0 * 1024 + x.val = x.val; omega
  · rfl

theorem iblk3_at (c : Dev nD) (t : Fin (cfgA ch).N) (x : Fin 16) (l : Fin 1536) :
    (iblk ch m ρ c 3 t : Vec Ideal S16x1536 .bf16) (ix2 x l) = m ((c : Thread nD τ).loc main_arg3) (ix2 x (Cert.FwdMath.col (chunk ch t) l)) := by
  show m ((c : Thread nD τ).loc main_arg3) ((((cfgA ch).win (3 : Fin 7)).blk t).view.emb (ix2 x l)) = _
  congr 1
  show (((cfgA ch).win (3 : Fin 7)).rect t).emb (ix2 x l) = _
  funext a
  apply Fin.ext
  rw [Window.rect_emb_val _ _ _ _ rfl, index3]
  fin_cases a
  · show 0 * 16 + x.val = x.val; omega
  · rfl

theorem disj4 : ∀ t t' : Fin (cfgA ch).N, ((cfgA ch).win (4 : Fin 7)).flush t = true → ((cfgA ch).win (4 : Fin 7)).flush t' = true → t ≠ t' →
    Disjoint (((cfgA ch).win (4 : Fin 7)).blk t).view.set (((cfgA ch).win (4 : Fin 7)).blk t').view.set :=
  Window.hdisj_of_index_inj _ fun t t' _ _ h => by
    rw [index4, index4] at h
    have h0 : t.val / 32 = t'.val / 32 := congrFun h 0
    have h2 : t.val % 32 = t'.val % 32 := congrFun h 2
    exact Fin.ext (by omega)
theorem disj5 : ∀ t t' : Fin (cfgA ch).N, ((cfgA ch).win (5 : Fin 7)).flush t = true → ((cfgA ch).win (5 : Fin 7)).flush t' = true → t ≠ t' →
    Disjoint (((cfgA ch).win (5 : Fin 7)).blk t).view.set (((cfgA ch).win (5 : Fin 7)).blk t').view.set :=
  Window.hdisj_of_index_inj _ fun t t' f f' h => by
    rw [index5, index5] at h
    rw [flush5, decide_eq_true_eq] at f f'
    have h0 : t.val / 32 = t'.val / 32 := congrFun h 0
    exact Fin.ext (by omega)
theorem disj6 : ∀ t t' : Fin (cfgA ch).N, ((cfgA ch).win (6 : Fin 7)).flush t = true → ((cfgA ch).win (6 : Fin 7)).flush t' = true → t ≠ t' →
    Disjoint (((cfgA ch).win (6 : Fin 7)).blk t).view.set (((cfgA ch).win (6 : Fin 7)).blk t').view.set :=
  Window.hdisj_of_index_inj _ fun t t' f f' h => by
    rw [index6, index6] at h
    rw [flush6, decide_eq_true_eq] at f f'
    have h0 : t.val / 32 = t'.val / 32 := congrFun h 0
    exact Fin.ext (by omega)

theorem arr4_at (c : Dev nD) (t : Fin (cfgA ch).N) (r : Fin 528) (l : Fin 1536) :
    (dats ch m ρ 0 c).arrAt (4 : Fin 7) (cfgA ch).N (ix3 (grp ch t) r (Cert.FwdMath.col (chunk ch t) l))
      = (traj0 ch m ρ c t.val t.isLt).1 (ix3 0 r l) := by
  have e : (((cfgA ch).win (4 : Fin 7)).blk t).view.emb (ix3 0 r l) = ix3 (grp ch t) r (Cert.FwdMath.col (chunk ch t) l) := by
    show (((cfgA ch).win (4 : Fin 7)).rect t).emb (ix3 0 r l) = _
    funext a
    apply Fin.ext
    rw [Window.rect_emb_val _ _ _ _ rfl, index4]
    fin_cases a
    · show t.val / 32 * 1 + 0 = t.val / 32; omega
    · show 0 * 528 + r.val = r.val; omega
    · rfl
  have h := (dats ch m ρ 0 c).arrAt_emb_eq_flushed (4 : Fin 7) (disj4 ch) t (flush4 ch t) (ix3 0 r l)
  rw [← e]
  exact h
theorem arr5_at (c : Dev nD) (t : Fin (cfgA ch).N) (ht : t.val % 32 = 31) (r : Fin 528) (a : Fin 128) :
    (dats ch m ρ 0 c).arrAt (5 : Fin 7) (cfgA ch).N (ix3 (grp ch t) r a) = (traj0 ch m ρ c t.val t.isLt).2.1 (ix3 0 r a) := by
  have e : (((cfgA ch).win (5 : Fin 7)).blk t).view.emb (ix3 0 r a) = ix3 (grp ch t) r a := by
    show (((cfgA ch).win (5 : Fin 7)).rect t).emb (ix3 0 r a) = _
    funext b
    apply Fin.ext
    rw [Window.rect_emb_val _ _ _ _ rfl, index5]
    fin_cases b
    · show t.val / 32 * 1 + 0 = t.val / 32; omega
    · show 0 * 528 + r.val = r.val; omega
    · show 0 * 128 + a.val = a.val; omega
  have h := (dats ch m ρ 0 c).arrAt_emb_eq_flushed (5 : Fin 7) (disj5 ch) t (by rw [flush5, ht]; rfl) (ix3 0 r a)
  rw [← e]
  exact h
theorem arr6_at (c : Dev nD) (t : Fin (cfgA ch).N) (ht : t.val % 32 = 31) (r : Fin 528) (a : Fin 128) :
    (dats ch m ρ 0 c).arrAt (6 : Fin 7) (cfgA ch).N (ix3 (grp ch t) r a) = (traj0 ch m ρ c t.val t.isLt).2.2.1 (ix3 0 r a) := by
  have e : (((cfgA ch).win (6 : Fin 7)).blk t).view.emb (ix3 0 r a) = ix3 (grp ch t) r a := by
    show (((cfgA ch).win (6 : Fin 7)).rect t).emb (ix3 0 r a) = _
    funext b
    apply Fin.ext
    rw [Window.rect_emb_val _ _ _ _ rfl, index6]
    fin_cases b
    · show t.val / 32 * 1 + 0 = t.val / 32; omega
    · show 0 * 528 + r.val = r.val; omega
    · show 0 * 128 + a.val = a.val; omega
  have h := (dats ch m ρ 0 c).arrAt_emb_eq_flushed (6 : Fin 7) (disj6 ch) t (by rw [flush6, ht]; rfl) (ix3 0 r a)
  rw [← e]
  exact h

end Cert.FwdIdeal.Geom

end
-- ==== Proof.FwdRows.lean ====
/- The forward kernel's and its reference's values read at an index: one row of a group at a time. -/
module

public import proofs.«01_k».proof.Proof.Gen.FwdIdeal.Skeleton
public import proofs.«01_k».proof.Proof.Gen.FwdRefIdeal.Skeleton
public import proofs.«01_k».proof.Proof.FwdMath
public import Idealize.ShloMosaic.Lib.Pointwise

@[expose] public section

noncomputable section

open Idealize.ShloMosaic Idealize.ShloMosaic.TcCoe Cert.FwdMath Finset

namespace Cert.FwdMath

theorem neg_inf : Ideal.ofBits .f32 4286578688#32 = ⊥ := by
  simp [Ideal.ofBits, Ideal.ieee]
theorem fold_max {n : Nat} (f : Fin n → EReal) : Finset.univ.fold max (Ideal.ofBits .f32 4286578688#32) f = univ.sup f := by
  rw [neg_inf]; rfl
theorem select_eq (x y : BitVec 32) (a b : EReal) :
    Scalar.select (IntOp.cmpi CmpIPredicate.eq x y) a b = if x = y then a else b := by
  by_cases h : x = y
  · simp [Scalar.select, IntOp.cmpi, h]
  · have h' : (x == y) = false := beq_eq_false_iff_ne.2 h
    simp [Scalar.select, IntOp.cmpi, h, h']
end Cert.FwdMath

namespace Cert.FwdIdeal.Rows

open Cert.FwdIdeal Cert.FwdIdeal.Gen

theorem log2e : (Named.named κ "log2e" 1069066811#32 : Ideal .f32) = L := rfl

variable (x0 : Vec Ideal S1x528x1024 .bf16) (x1 : Vec Ideal S1x528x128 .f32) (x2 : Vec Ideal S1024x1536 .fp8e4m3) (x3 : Vec Ideal S16x1536 .bf16)

theorem u_at (r : Fin 528) (l : Fin 1536) : k0_pay8 (F := Ideal) x1 x0 x2 x3 (ix2 r l)
    = (∑ x : Fin 1024, x0 (ix3 0 r x) * (x2 (ix2 x l) * x3 (ix2 ⟨x.val / 64, by omega⟩ l))) * (x1 (ix3 0 r 2) * L) := by
  pointwise [k0_pay8, k0_pay7]
  rfl

/-- Column `l` of chunk `k` is the label's. -/
def isHit (t : BitVec 32) (k : ℕ) (l : Fin 1536) : Prop := BitVec.ofNat 32 l.val = t - BitVec.ofNat 32 k * 1536#32
instance (t : BitVec 32) (k : ℕ) (l : Fin 1536) : Decidable (isHit t k l) := by unfold isHit; infer_instance

theorem hit_at (i : grid0.Static) (r : Fin 528) (l : Fin 1536) : k0_pay10 (F := Ideal) i x1 (ix2 r l)
    = IntOp.cmpi .eq (BitVec.ofNat 32 l.val) (FloatOps.fptosi (F := Ideal) (φ := .f32) 32 (x1 (ix3 0 r 0)) - BitVec.ofNat 32 (i 1).val * 1536#32) := by
  pointwise [k0_pay10, k0_pay7]
  try rfl

theorem m_at (u : FVec Ideal S528x1536 .f32) (m : Vec Ideal S528x1 .f32) (r : Fin 528) :
    k0_pay1 (k0_pay14 u m) (ix2 r 0) = max (m (ix2 r 0)) (univ.sup fun l => u (ix2 r l)) := by
  pointwise [k0_pay1, k0_pay14]
  rw [fold_max]
theorem l_at (u : FVec Ideal S528x1536 .f32) (m l : Vec Ideal S528x1 .f32) (r : Fin 528) :
    k0_pay15 u m l (ix2 r 0) = l (ix2 r 0) * Ideal.exp2 (m (ix2 r 0) - max (m (ix2 r 0)) (univ.sup fun l => u (ix2 r l)))
      + ∑ x, Ideal.exp2 (u (ix2 r x) - max (m (ix2 r 0)) (univ.sup fun l => u (ix2 r l))) := by
  pointwise [k0_pay1, k0_pay15, k0_pay14]
  rw [fold_max]; rfl
theorem h_at (u : FVec Ideal S528x1536 .f32) (m : Vec Ideal S528x1 .f32) (r : Fin 528) :
    k0_pay12 m u (ix2 r 0) = m (ix2 r 0) + ∑ x, u (ix2 r x) := by
  pointwise [k0_pay12]
theorem c_at (b : BitVec 32) (u : FVec Ideal S528x1536 .f32) (hit : IVec S528x1536 1) (v : Vec Ideal S1x528x128 .f32) (r : Fin 528) (a : Fin 128) :
    k0_pay13 b u hit v (ix3 0 r a) = if BitVec.ofNat 32 a.val = b then univ.sup (fun x => Scalar.select (hit (ix2 r x)) (⊥ : EReal) (u (ix2 r x)))
      else v (ix3 0 r a) := by
  pointwise [k0_pay13]
  rw [fold_max, select_eq, neg_inf]
theorem s_at (m l h : Vec Ideal S528x1 .f32) (r : Fin 528) (a : Fin 128) :
    k0_pay2 (iota .tc S528x128 32 [1] iota_S528x128_d1_w32) m l h (ix3 0 r a)
      = if BitVec.ofNat 32 a.val = 0#32 then m (ix2 r 0) + Ideal.log (l (ix2 r 0)) * L else h (ix2 r 0) := by
  pointwise [k0_pay2]
  rw [select_eq, log2e]
theorem u9_at (r : Fin 528) (l : Fin 1536) : k0_pay9 (F := Ideal) x1 x0 x2 x3 (ix3 0 r l) = k0_pay8 (F := Ideal) x1 x0 x2 x3 (ix2 r l) := by
  pointwise [k0_pay9]
theorem h11_at (i : grid0.Static) (r : Fin 528) (l : Fin 1536) : k0_pay11 (F := Ideal) i x1 x0 x2 x3 (ix2 r l)
    = Scalar.select (k0_pay10 i x1 (ix2 r l)) (k0_pay8 x1 x0 x2 x3 (ix2 r l)) 0 := by
  pointwise [k0_pay11]
end Cert.FwdIdeal.Rows

namespace Cert.FwdMath
open Cert.FwdRefIdeal

variable (a0 : Vec Ideal S2x528x1024 .bf16) (a1 : Vec Ideal S2x528x128 .f32) (a2 : Vec Ideal S1024x49152 .fp8e4m3) (a3 : Vec Ideal S16x49152 .bf16)
/-- The logit of row `r` of group `g` at column `j`. -/
def logit (g : Fin 2) (r : Fin 528) (j : Fin 49152) : EReal :=
  (∑ x : Fin 1024, a0 (ix3 g r x) * (a2 (ix2 x j) * a3 (ix2 ⟨x.val / 64, by omega⟩ j))) * a1 (ix3 g r 2)
/-- The label of row `r` of group `g`. -/
def label (g : Fin 2) (r : Fin 528) : BitVec 32 := FloatOps.fptosi (F := Ideal) (φ := .f32) 32 (a1 (ix3 g r 0))
end Cert.FwdMath

end
-- ==== Proof.FwdRefRows.lean ====
/- The forward reference's values read at an index: one row of a group at a time. -/
module

public import proofs.«01_k».proof.Proof.FwdRows

@[expose] public section

noncomputable section

namespace Cert.FwdRefIdeal.Rows

open Idealize.ShloMosaic Idealize.ShloMosaic.TcCoe Cert.FwdMath Finset
open Cert.FwdRefIdeal Cert.FwdRefIdeal.Gen

theorem log2e : (Named.named κ "log2e" 1069066811#32 : Ideal .f32) = L := rfl

variable (a0 : Vec Ideal S2x528x1024 .bf16) (a1 : Vec Ideal S2x528x128 .f32) (a2 : Vec Ideal S1024x49152 .fp8e4m3) (a3 : Vec Ideal S16x49152 .bf16)

/-- The group a row of all rows belongs to, and its place there. -/
def grp (R : Fin 1056) : Fin 2 := ⟨R.val / 528, by omega⟩
def pos (R : Fin 1056) : Fin 528 := ⟨R.val % 528, by omega⟩
/-- Row `r` of group `g` among all rows. -/
def row (g : Fin 2) (r : Fin 528) : Fin 1056 := ⟨g.val * 528 + r.val, by omega⟩
theorem grp_row (g : Fin 2) (r : Fin 528) : grp (row g r) = g := Fin.ext (by simp only [grp, row]; omega)
theorem pos_row (g : Fin 2) (r : Fin 528) : pos (row g r) = r := Fin.ext (by simp only [pos, row]; omega)

theorem z_at (R : Fin 1056) (j : Fin 49152) : k0_pay4 (F := Ideal) a1 a2 a3 a0 (ix2 R j) = logit a0 a1 a2 a3 (grp R) (pos R) j := by
  pointwise [k0_pay4, k0_pay3]
  rfl
theorem hit_at (R : Fin 1056) (j : Fin 49152) : k0_pay5 (F := Ideal) a1 (ix2 R j)
    = IntOp.cmpi .eq (BitVec.ofNat 32 j.val) (label a1 (grp R) (pos R)) := by
  pointwise [k0_pay5, k0_pay3]
  rfl
/-- The row maximum. -/
theorem max_at (z : FVec Ideal S1056x49152 .f32) (R : Fin 1056) :
    multiReduction .maximumf [1] S1056 z 0xFF800000#32 reduces_S1056x49152_S1056 (.inl rfl) rfl (ix1 R) = univ.sup fun j => z (ix2 R j) := by
  pointwise
  rw [fold_max]
theorem add_at (z : FVec Ideal S1056x49152 .f32) (R : Fin 1056) :
    multiReduction .add [1] S1056 z 0x00000000#32 reduces_S1056x49152_S1056 (.inl rfl) rfl (ix1 R) = ∑ j, z (ix2 R j) := by
  pointwise
theorem exp_at (z : FVec Ideal S1056x49152 .f32) (v : FVec Ideal S1056 .f32) (R : Fin 1056) (j : Fin 49152) :
    exp (subf z (broadcastTo S1056x49152 (shapeCast S1056x1 v shapeCasts_S1056_S1056x1) broadcasts_S1056x1_S1056x49152)) (ix2 R j)
      = Ideal.exp (z (ix2 R j) - v (ix1 R)) := by
  pointwise
theorem col_at (v w : FVec Ideal S1056 .f32) (R : Fin 1056) :
    addf (shapeCast S1056x1 v shapeCasts_S1056_S1056x1) (log (shapeCast S1056x1 w shapeCasts_S1056_S1056x1)) (ix2 R 0)
      = v (ix1 R) + Ideal.log (w (ix1 R)) := by
  pointwise
theorem col1_at (v : FVec Ideal S1056 .f32) (R : Fin 1056) :
    shapeCast S1056x1 v shapeCasts_S1056_S1056x1 (ix2 R 0) = v (ix1 R) := by
  pointwise
theorem lse_at (R : Fin 1056) : k0_pay6 (F := Ideal) a1 a2 a3 a0 (ix2 R 0)
    = (univ.sup fun j => k0_pay4 (F := Ideal) a1 a2 a3 a0 (ix2 R j)) + Ideal.log (∑ j, Ideal.exp (k0_pay4 (F := Ideal) a1 a2 a3 a0 (ix2 R j)
        - univ.sup fun j => k0_pay4 (F := Ideal) a1 a2 a3 a0 (ix2 R j))) := by
  unfold k0_pay6
  refine (col_at _ _ R).trans ?_
  rw [max_at, add_at]
  refine congrArg (fun s => _ + Ideal.log s) ?_
  refine sum_congr rfl fun j _ => ?_
  rw [exp_at, max_at]
theorem lab_at (R : Fin 1056) : k0_pay7 (F := Ideal) a1 a2 a3 a0 (ix2 R 0)
    = ∑ j, Scalar.select (k0_pay5 a1 (ix2 R j)) (k0_pay4 (F := Ideal) a1 a2 a3 a0 (ix2 R j)) (0 : EReal) := by
  unfold k0_pay7
  refine (col1_at _ R).trans ?_
  rw [add_at]
  refine sum_congr rfl fun j _ => ?_
  pointwise
theorem rest_at (R : Fin 1056) (k : Fin 32) : k0_pay8 (F := Ideal) a1 a2 a3 a0 (ix2 R k)
    = univ.sup fun l : Fin 1536 => Scalar.select (k0_pay5 a1 (ix2 R (col k l))) (⊥ : EReal) (k0_pay4 (F := Ideal) a1 a2 a3 a0 (ix2 R (col k l))) := by
  pointwise [k0_pay8]
  rw [fold_max, neg_inf]
  rfl
theorem out4_at (g : Fin 2) (r : Fin 528) (j : Fin 49152) : k0_pay9 (F := Ideal) a1 a2 a3 a0 (ix3 g r j)
    = k0_pay4 (F := Ideal) a1 a2 a3 a0 (ix2 (row g r) j) * L := by
  pointwise [k0_pay9]
  rfl
theorem out5_at (v : FVec Ideal S1056x32 .f32) (g : Fin 2) (r : Fin 528) (j : Fin 128) : k0_pay1 (F := Ideal) v (ix3 g r j)
    = if h : j.val < 32 then v (ix2 (row g r) ⟨j.val, h⟩) * L else 0 := by
  pointwise [k0_pay1]
  rfl
theorem out6_at (v w : FVec Ideal S1056x1 .f32) (g : Fin 2) (r : Fin 528) (j : Fin 128) :
    k0_pay2 (F := Ideal) v w (iota .tc S1056x128 32 [1] iota_S1056x128_d1_w32) (ix3 g r j)
      = (if BitVec.ofNat 32 j.val = 0#32 then v (ix2 (row g r) 0) else w (ix2 (row g r) 0)) * L := by
  pointwise [k0_pay2]
  rw [select_eq]
  rfl
end Cert.FwdRefIdeal.Rows

end
-- ==== Proof.FwdCarry.lean ====
/- The forward kernel's carried values after each chunk, row by row: the running maximum, sum and picked logit over the chunks
   so far, and the maxima of those chunks. -/
module

public import proofs.«01_k».proof.Proof.FwdGeom
public import proofs.«01_k».proof.Proof.FwdRefRows

@[expose] public section

set_option maxRecDepth 16384

noncomputable section

namespace Cert.FwdIdeal.Carried

open Cert.FwdIdeal Cert.FwdIdeal.Gen Cert.FwdIdeal.Path Cert.FwdIdeal.Geom Cert.FwdIdeal.Rows
open Idealize.ShloMosaic Idealize.ShloMosaic.TcCoe Idealize.SL.Sem Cert.FwdMath Finset

section Row

variable (a0 : Vec Ideal Cert.FwdRefIdeal.S2x528x1024 .bf16) (a1 : Vec Ideal Cert.FwdRefIdeal.S2x528x128 .f32)
  (a2 : Vec Ideal Cert.FwdRefIdeal.S1024x49152 .fp8e4m3) (a3 : Vec Ideal Cert.FwdRefIdeal.S16x49152 .bf16) (g : Fin 2)

/-- The logit of row `r` at column `l` of chunk `k`, to the base two. -/
def scaled (r : Fin 528) (k : ℕ) (l : Fin 1536) : EReal :=
  if h : k < 32 then logit a0 a1 a2 a3 g r (col ⟨k, h⟩ l) * L else 0

theorem scaled_eq (r : Fin 528) (k : Fin 32) (l : Fin 1536) :
    scaled a0 a1 a2 a3 g r k.val l = logit a0 a1 a2 a3 g r (col k l) * L := by
  unfold scaled; rw [dif_pos k.isLt]

/-- What a row carries after `n` chunks. -/
structure Inv (n : ℕ) (s : Carry) (r : Fin 528) : Prop where
  m : s.m (ix2 r 0) = top (scaled a0 a1 a2 a3 g r) n
  l : s.l (ix2 r 0) = tot (scaled a0 a1 a2 a3 g r) n
  h : s.h (ix2 r 0) = ∑ k ∈ range n, ∑ l, if isHit (label a1 g r) k l then scaled a0 a1 a2 a3 g r k l else 0
  cm : ∀ a : Fin 128, s.cm (ix3 0 r a) = if a.val < n then
    univ.sup fun l => if isHit (label a1 g r) a.val l then (⊥ : EReal) else scaled a0 a1 a2 a3 g r a.val l else 0

theorem inv_init (r : Fin 528) : Inv a0 a1 a2 a3 g 0 Carry.init r where
  m := by rw [top_zero]; exact neg_inf
  l := by rw [tot_zero]; exact Ideal.ofBits_zero .f32
  h := by rw [sum_range_zero]; exact Ideal.ofBits_zero .f32
  cm := fun a => by rw [if_neg (Nat.not_lt_zero _)]; exact Ideal.ofBits_zero .f32

theorem select_hit (x y : BitVec 32) (a b : EReal) {p : Prop} [Decidable p] (h : p ↔ x = y) :
    Scalar.select (IntOp.cmpi CmpIPredicate.eq x y) a b = if p then a else b := by
  rw [select_eq]; by_cases e : x = y
  · rw [if_pos e, if_pos (h.2 e)]
  · rw [if_neg e, if_neg fun q => e (h.1 q)]

variable (i : grid0.Static) (k : Fin 32) (hk : (i 1).val = k.val)
  (x0 : Vec Ideal S1x528x1024 .bf16) (x1 : Vec Ideal S1x528x128 .f32) (x2 : Vec Ideal S1024x1536 .fp8e4m3) (x3 : Vec Ideal S16x1536 .bf16)
  (h0 : ∀ r x, x0 (ix3 0 r x) = a0 (ix3 g r x)) (h1 : ∀ r x, x1 (ix3 0 r x) = a1 (ix3 g r x))
  (h2 : ∀ x l, x2 (ix2 x l) = a2 (ix2 x (col k l))) (h3 : ∀ x l, x3 (ix2 x l) = a3 (ix2 x (col k l)))

include h0 h1 h2 h3 in
theorem block_at (r : Fin 528) (l : Fin 1536) : k0_pay8 (F := Ideal) x1 x0 x2 x3 (ix2 r l) = scaled a0 a1 a2 a3 g r k.val l := by
  rw [u_at, scaled_eq, ← mul_assoc, h1]
  refine congrArg (fun s => s * _ * L) (sum_congr rfl fun x _ => ?_)
  rw [h0, h2, h3]

include hk h1 in
theorem hitb_at (r : Fin 528) (l : Fin 1536) (a b : EReal) :
    Scalar.select (k0_pay10 (F := Ideal) i x1 (ix2 r l)) a b = if isHit (label a1 g r) k.val l then a else b := by
  rw [hit_at, h1, hk]
  exact select_hit _ _ _ _ Iff.rfl

include hk h0 h1 h2 h3 in
theorem inv_next (s : Carry) (r : Fin 528) (hs : Inv a0 a1 a2 a3 g k.val s r) :
    Inv a0 a1 a2 a3 g (k.val + 1) (s.next i x0 x1 x2 x3) r where
  m := by
    refine (m_at _ _ r).trans ?_
    simp only [block_at a0 a1 a2 a3 g k x0 x1 x2 x3 h0 h1 h2 h3, hs.m, top_succ]
  l := by
    refine (l_at _ _ _ r).trans ?_
    simp only [block_at a0 a1 a2 a3 g k x0 x1 x2 x3 h0 h1 h2 h3, hs.m, hs.l, tot_succ, top_succ]
  h := by
    refine (h_at _ _ r).trans ?_
    rw [hs.h, sum_range_succ]
    refine congrArg (fun s => _ + s) (sum_congr rfl fun l _ => ?_)
    rw [h11_at, hitb_at a1 g i k hk x1 h1, block_at a0 a1 a2 a3 g k x0 x1 x2 x3 h0 h1 h2 h3]
  cm := fun a => by
    refine (c_at _ _ _ _ r a).trans ?_
    have e : BitVec.ofNat 32 a.val = BitVec.ofNat 32 (i 1).val ↔ a.val = k.val := by
      rw [hk, ← BitVec.toNat_inj, BitVec.toNat_ofNat, BitVec.toNat_ofNat, Nat.mod_eq_of_lt, Nat.mod_eq_of_lt] <;> omega
    by_cases h : a.val = k.val
    · rw [if_pos (e.2 h), if_pos (by omega), h]
      refine sup_congr rfl fun l _ => ?_
      rw [hitb_at a1 g i k hk x1 h1, block_at a0 a1 a2 a3 g k x0 x1 x2 x3 h0 h1 h2 h3]
    · rw [if_neg fun q => h (e.1 q), hs.cm]
      by_cases q : a.val < k.val
      · rw [if_pos q, if_pos (by omega)]
      · rw [if_neg q, if_neg (by omega)]

/-! ### After the last chunk: the reference's values -/

open Cert.FwdRefIdeal.Rows (row grp pos grp_row pos_row)

theorem ref_hit (R : Fin 1056) (j : Fin 49152) (a b : EReal) :
    Scalar.select (Cert.FwdRefIdeal.Gen.k0_pay5 (F := Ideal) a1 (ix2 R j)) a b
      = if BitVec.ofNat 32 j.val = label a1 (grp R) (pos R) then a else b := by
  rw [Cert.FwdRefIdeal.Rows.hit_at]; exact select_eq _ _ _ _

theorem ref4 (r : Fin 528) (k : Fin 32) (l : Fin 1536) :
    scaled a0 a1 a2 a3 g r k.val l = Cert.FwdRefIdeal.Gen.k0_pay9 (F := Ideal) a1 a2 a3 a0 (ix3 g r (col k l)) := by
  rw [scaled_eq, Cert.FwdRefIdeal.Rows.out4_at, Cert.FwdRefIdeal.Rows.z_at, grp_row, pos_row]

theorem ref5 (s : Carry) (r : Fin 528) (hs : Inv a0 a1 a2 a3 g 32 s r) (a : Fin 128) :
    s.cm (ix3 0 r a) = Cert.FwdRefIdeal.Gen.k0_pay1 (F := Ideal) (Cert.FwdRefIdeal.Gen.k0_pay8 a1 a2 a3 a0) (ix3 g r a) := by
  rw [hs.cm, Cert.FwdRefIdeal.Rows.out5_at]
  by_cases h : a.val < 32
  · rw [if_pos h, dif_pos h, Cert.FwdRefIdeal.Rows.rest_at]
    simp only [ref_hit, Cert.FwdRefIdeal.Rows.z_at, grp_row, pos_row]
    exact rest_all (logit a0 a1 a2 a3 g r) (scaled_eq a0 a1 a2 a3 g r) ⟨a.val, h⟩ _ (fun j => BitVec.ofNat 32 j.val = label a1 g r)
      fun l => hit_iff _ ⟨a.val, h⟩ l
  · rw [if_neg h, dif_neg h]

theorem ref6 (s : Carry) (r : Fin 528) (hs : Inv a0 a1 a2 a3 g 32 s r) (a : Fin 128) :
    s.stat (ix3 0 r a) = Cert.FwdRefIdeal.Gen.k0_pay2 (F := Ideal) (Cert.FwdRefIdeal.Gen.k0_pay6 a1 a2 a3 a0)
      (Cert.FwdRefIdeal.Gen.k0_pay7 a1 a2 a3 a0) (iota .tc Cert.FwdRefIdeal.S1056x128 32 [1] Cert.FwdRefIdeal.Gen.iota_S1056x128_d1_w32) (ix3 g r a) := by
  refine (s_at _ _ _ r a).trans ?_
  rw [Cert.FwdRefIdeal.Rows.out6_at, hs.m, hs.l, hs.h]
  split
  · rw [Cert.FwdRefIdeal.Rows.lse_at]
    simp only [Cert.FwdRefIdeal.Rows.z_at, grp_row, pos_row]
    exact lse_all _ (scaled_eq a0 a1 a2 a3 g r)
  · rw [Cert.FwdRefIdeal.Rows.lab_at]
    simp only [ref_hit, Cert.FwdRefIdeal.Rows.z_at, grp_row, pos_row]
    exact hit_all _ (scaled_eq a0 a1 a2 a3 g r) (isHit (label a1 g r)) (fun j => BitVec.ofNat 32 j.val = label a1 g r)
      fun k l => hit_iff _ k l

end Row

/-! ### Along the grid -/

variable (ch : Fin 3) (m : (ℓ : Loc nD τ sig) → Buf (Elt Ideal) ℓ) (ρ : Dev nD → PrngReg)

theorem step_carry (c : Dev nD) (t : Fin (cfgA ch).N) (prev : St c) :
    carry (step0 ch m ρ c t prev) = nx ch m ρ c t (if t.val % 32 = 0 then Carry.init else carry prev) := by
  by_cases q0 : P0_0 ch t
  · rw [if_pos ((coords ch t).2.1.1 q0)]; exact carry_A ch m ρ c t prev q0
  · rw [if_neg fun h => q0 ((coords ch t).2.1.2 h)]
    by_cases q1 : P0_1 ch t
    · exact carry_C ch m ρ c t prev q0 q1
    · exact carry_B ch m ρ c t prev q0 q1

theorem step_u (c : Dev nD) (t : Fin (cfgA ch).N) (prev : St c) :
    (step0 ch m ρ c t prev).1 = k0_pay9 (iblk ch m ρ c 1 t) (iblk ch m ρ c 0 t) (iblk ch m ρ c 2 t) (iblk ch m ρ c 3 t) := by
  by_cases q0 : P0_0 ch t
  · exact u_A ch m ρ c t prev q0
  · by_cases q1 : P0_1 ch t
    · exact u_C ch m ρ c t prev q0 q1
    · exact u_B ch m ρ c t prev q0 q1

theorem traj_step (c : Dev nD) (n : ℕ) (h : n < (cfgA ch).N) :
    ∃ prev : St c, traj0 ch m ρ c n h = step0 ch m ρ c ⟨n, h⟩ prev ∧ (∀ n' h', n = n' + 1 → prev = traj0 ch m ρ c n' h') := by
  cases n with
  | zero => exact ⟨_, rfl, fun n' h' e => by omega⟩
  | succ n => exact ⟨_, rfl, fun n' h' e => by cases Nat.succ.inj e; rfl⟩

abbrev A0 (c : Dev nD) : Vec Ideal Cert.FwdRefIdeal.S2x528x1024 .bf16 := m ((c : Thread nD τ).loc main_arg0)
abbrev A1 (c : Dev nD) : Vec Ideal Cert.FwdRefIdeal.S2x528x128 .f32 := m ((c : Thread nD τ).loc main_arg1)
abbrev A2 (c : Dev nD) : Vec Ideal Cert.FwdRefIdeal.S1024x49152 .fp8e4m3 := m ((c : Thread nD τ).loc main_arg2)
abbrev A3 (c : Dev nD) : Vec Ideal Cert.FwdRefIdeal.S16x49152 .bf16 := m ((c : Thread nD τ).loc main_arg3)

/-- After every point each row carries what it should of the point's group, up to the point's chunk. -/
theorem traj_inv (c : Dev nD) (r : Fin 528) (n : ℕ) (h : n < (cfgA ch).N) :
    Inv (A0 m c) (A1 m c) (A2 m c) (A3 m c) (Geom.grp ch ⟨n, h⟩) (n % 32 + 1) (carry (traj0 ch m ρ c n h)) r := by
  induction n with
  | zero =>
    obtain ⟨prev, e, -⟩ := traj_step ch m ρ c 0 h
    rw [e, step_carry, if_pos (Nat.zero_mod 32)]
    exact inv_next _ _ _ _ _ _ (chunk ch ⟨0, h⟩) (coords ch ⟨0, h⟩).1 _ _ _ _ (iblk0_at ch m ρ c _) (iblk1_at ch m ρ c _)
      (iblk2_at ch m ρ c _) (iblk3_at ch m ρ c _) _ r (inv_init _ _ _ _ _ r)
  | succ n ih =>
    obtain ⟨prev, e, hp⟩ := traj_step ch m ρ c (n + 1) h
    have hn : n < (cfgA ch).N := by omega
    rw [e, step_carry]
    refine inv_next _ _ _ _ _ _ (chunk ch ⟨n + 1, h⟩) (coords ch ⟨n + 1, h⟩).1 _ _ _ _ (iblk0_at ch m ρ c _) (iblk1_at ch m ρ c _)
      (iblk2_at ch m ρ c _) (iblk3_at ch m ρ c _) _ r ?_
    show Inv _ _ _ _ _ ((n + 1) % 32) _ r
    by_cases q : (n + 1) % 32 = 0
    · rw [if_pos q, q]; exact inv_init _ _ _ _ _ r
    · rw [if_neg q, hp n hn rfl]
      have e1 : Geom.grp ch ⟨n + 1, h⟩ = Geom.grp ch ⟨n, hn⟩ := Fin.ext (by show (n + 1) / 32 = n / 32; omega)
      have e2 : (n + 1) % 32 = n % 32 + 1 := by omega
      rw [e1, e2]; exact ih hn

end Cert.FwdIdeal.Carried

end
-- ==== Proof.FwdRefRun.lean ====
/- The forward reference's run: what its three output arrays end holding, as functions of its argument arrays. -/
module

public import proofs.«01_k».proof.Proof.Gen.FwdRefIdeal.Frame
public import Idealize.ShloMosaic.Lib.Pipeline.Value

@[expose] public section

set_option maxRecDepth 16384

noncomputable section

namespace Cert.FwdRefIdeal.Run

open Cert.FwdRefIdeal Cert.FwdRefIdeal.Gen Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block is its whole array. -/
theorem index0 : ∀ (t : Fin cfg0.N) (a : Fin (cfg0.win 0).shape.rank), (cfg0.win 0).index t a = 0 := by decide +kernel
theorem emb0 (t : Fin cfg0.N) (j : S2x528x1024.Idx) : ((cfg0.win 0).blk t).view.emb j = j := by
  show ((cfg0.win 0).rect t).emb j = j
  funext a
  exact Fin.ext (Window.rect_emb_val_of_index_zero _ _ _ (index0 t a) j)
theorem index1 : ∀ (t : Fin cfg0.N) (a : Fin (cfg0.win 1).shape.rank), (cfg0.win 1).index t a = 0 := by decide +kernel
theorem emb1 (t : Fin cfg0.N) (j : S2x528x128.Idx) : ((cfg0.win 1).blk t).view.emb j = j := by
  show ((cfg0.win 1).rect t).emb j = j
  funext a
  exact Fin.ext (Window.rect_emb_val_of_index_zero _ _ _ (index1 t a) j)
theorem index2 : ∀ (t : Fin cfg0.N) (a : Fin (cfg0.win 2).shape.rank), (cfg0.win 2).index t a = 0 := by decide +kernel
theorem emb2 (t : Fin cfg0.N) (j : S1024x49152.Idx) : ((cfg0.win 2).blk t).view.emb j = j := by
  show ((cfg0.win 2).rect t).emb j = j
  funext a
  exact Fin.ext (Window.rect_emb_val_of_index_zero _ _ _ (index2 t a) j)
theorem index3 : ∀ (t : Fin cfg0.N) (a : Fin (cfg0.win 3).shape.rank), (cfg0.win 3).index t a = 0 := by decide +kernel
theorem emb3 (t : Fin cfg0.N) (j : S16x49152.Idx) : ((cfg0.win 3).blk t).view.emb j = j := by
  show ((cfg0.win 3).rect t).emb j = j
  funext a
  exact Fin.ext (Window.rect_emb_val_of_index_zero _ _ _ (index3 t a) j)
theorem index4 : ∀ (t : Fin cfg0.N) (a : Fin (cfg0.win 4).shape.rank), (cfg0.win 4).index t a = 0 := by decide +kernel
theorem emb4 (t : Fin cfg0.N) (j : S2x528x49152.Idx) : ((cfg0.win 4).blk t).view.emb j = j := by
  show ((cfg0.win 4).rect t).emb j = j
  funext a
  exact Fin.ext (Window.rect_emb_val_of_index_zero _ _ _ (index4 t a) j)
theorem index5 : ∀ (t : Fin cfg0.N) (a : Fin (cfg0.win 5).shape.rank), (cfg0.win 5).index t a = 0 := by decide +kernel
theorem emb5 (t : Fin cfg0.N) (j : S2x528x128.Idx) : ((cfg0.win 5).blk t).view.emb j = j := by
  show ((cfg0.win 5).rect t).emb j = j
  funext a
  exact Fin.ext (Window.rect_emb_val_of_index_zero _ _ _ (index5 t a) j)
theorem index6 : ∀ (t : Fin cfg0.N) (a : Fin (cfg0.win 6).shape.rank), (cfg0.win 6).index t a = 0 := by decide +kernel
theorem emb6 (t : Fin cfg0.N) (j : S2x528x128.Idx) : ((cfg0.win 6).blk t).view.emb j = j := by
  show ((cfg0.win 6).rect t).emb j = j
  funext a
  exact Fin.ext (Window.rect_emb_val_of_index_zero _ _ _ (index6 t a) j)
theorem iblk0_eq (c : Dev nD) (t : Fin cfg0.N) : iblk m c 0 t = m ((c : Thread nD τ).loc main_arg0) :=
  funext fun j => congrArg (m ((c : Thread nD τ).loc main_arg0)) (emb0 t j)
theorem iblk1_eq (c : Dev nD) (t : Fin cfg0.N) : iblk m c 1 t = m ((c : Thread nD τ).loc main_arg1) :=
  funext fun j => congrArg (m ((c : Thread nD τ).loc main_arg1)) (emb1 t j)
theorem iblk2_eq (c : Dev nD) (t : Fin cfg0.N) : iblk m c 2 t = m ((c : Thread nD τ).loc main_arg2) :=
  funext fun j => congrArg (m ((c : Thread nD τ).loc main_arg2)) (emb2 t j)
theorem iblk3_eq (c : Dev nD) (t : Fin cfg0.N) : iblk m c 3 t = m ((c : Thread nD τ).loc main_arg3) :=
  funext fun j => congrArg (m ((c : Thread nD τ).loc main_arg3)) (emb3 t j)

/-- What output 0 ends holding. -/
def G4 (a0 : Vec Ideal S2x528x1024 .bf16) (a1 : Vec Ideal S2x528x128 .f32) (a2 : Vec Ideal S1024x49152 .fp8e4m3) (a3 : Vec Ideal S16x49152 .bf16) : Vec Ideal S2x528x49152 .f32 := k0_pay9 a1 a2 a3 a0
theorem out4_eq (a0 : Vec Ideal S2x528x1024 .bf16) (a1 : Vec Ideal S2x528x128 .f32) (a2 : Vec Ideal S1024x49152 .fp8e4m3) (a3 : Vec Ideal S16x49152 .bf16) : out0_4 (F := Ideal) a0 a1 a2 a3 = G4 a0 a1 a2 a3 := by
  unfold out0_4 G4
  rw [View.canon_unit_zero hz3, View.ld_unit_zero (S := S2x528x128) hz3 _ a1, View.ld_unit_zero (S := S1024x49152) hz2 _ a2,
    View.ld_unit_zero (S := S16x49152) hz2 _ a3, View.ld_unit_zero (S := S2x528x1024) hz3 _ a0]
theorem cut4_eq (t : Fin cfg0.N) (X : Vec Ideal S2x528x49152 .f32) :
    (cfg0.win 4).cut (grid0.coords t) X = ((cfg0.win 4).blk t).view.read (Elt Ideal) X := by
  funext j
  show X j = X (((cfg0.win 4).blk t).view.emb j)
  rw [emb4]
theorem flushed4_eq (c : Dev nD) (t : Fin cfg0.N) :
    (dats m 0 c).flushed 4 t = ((cfg0.win 4).blk t).view.read (Elt Ideal) (G4 (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4, out4_eq, iblk0_eq, iblk1_eq, iblk2_eq, iblk3_eq]
  exact cut4_eq t _
theorem covered4 (i : S2x528x49152.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) covered4

/-- What output 1 ends holding. -/
def G5 (a0 : Vec Ideal S2x528x1024 .bf16) (a1 : Vec Ideal S2x528x128 .f32) (a2 : Vec Ideal S1024x49152 .fp8e4m3) (a3 : Vec Ideal S16x49152 .bf16) : Vec Ideal S2x528x128 .f32 := k0_pay1 (k0_pay8 a1 a2 a3 a0)
theorem out5_eq (a0 : Vec Ideal S2x528x1024 .bf16) (a1 : Vec Ideal S2x528x128 .f32) (a2 : Vec Ideal S1024x49152 .fp8e4m3) (a3 : Vec Ideal S16x49152 .bf16) : out0_5 (F := Ideal) a0 a1 a2 a3 = G5 a0 a1 a2 a3 := by
  unfold out0_5 G5
  rw [View.canon_unit_zero hz3, View.ld_unit_zero (S := S2x528x128) hz3 _ a1, View.ld_unit_zero (S := S1024x49152) hz2 _ a2,
    View.ld_unit_zero (S := S16x49152) hz2 _ a3, View.ld_unit_zero (S := S2x528x1024) hz3 _ a0]
theorem cut5_eq (t : Fin cfg0.N) (X : Vec Ideal S2x528x128 .f32) :
    (cfg0.win 5).cut (grid0.coords t) X = ((cfg0.win 5).blk t).view.read (Elt Ideal) X := by
  funext j
  show X j = X (((cfg0.win 5).blk t).view.emb j)
  rw [emb5]
theorem flushed5_eq (c : Dev nD) (t : Fin cfg0.N) :
    (dats m 0 c).flushed 5 t = ((cfg0.win 5).blk t).view.read (Elt Ideal) (G5 (m ((c : Thread nD τ).loc main_arg0)) (m ((c : Thread nD τ).loc main_arg1)) (m ((c : Thread nD τ).loc main_arg2)) (m ((c : Thread nD τ).loc main_arg3))) := by
  show (cfg0.win 5).cut (grid0.coords t) ((dats m 0 c).after 5 t) = _
  rw [after0_5, out5_eq, iblk0_eq, iblk1_eq, iblk2_eq, iblk3_eq]
  exact cut5_eq t _
theorem covered5 (i : S2x528x128.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) covered5

/-- What output 2 ends holding. -/
def G6 (a0 : Vec Ideal S2x528x1024 .bf16) (a1 : Vec Ideal S2x528x128 .f32) (a2 : Vec Ideal S1024x49152 .fp8e4m3) (a3 : Vec Ideal S16x49152 .bf16) : Vec Ideal S2x528x128 .f32 := k0_pay2 (k0_pay6 a1 a2 a3 a0) (k0_pay7 a1 a2 a3 a0) (iota .tc S1056x128 32 [1] iota_S1056x128_d1_w32)
theorem out6_eq (a0 : Vec Ideal S2x528x1024 .bf16) (a1 : Vec Ideal S2x528x128 .f32) (a2 : Vec Ideal S1024x49152 .fp8e4m3) (a3 : Vec Ideal S16x49152 .bf16) : out0_6 (F := Ideal) a0 a1 a2 a3 = G6 a0 a1 a2 a3 := by
  unfold out0_6 G6
  rw [View.canon_unit_zero hz3, View.ld_unit_zero (S := S2x528x128) hz3 _ a1, View.ld_unit_zero (S := S1024x49152) hz2 _ a2,
    View.ld_unit_zero (S := S16x49152) hz2 _ a3, View.ld_unit_zero (S := S2x528x1024) hz3 _ a0]
theorem cut6_eq (t : Fin cfg0.N) (X : Vec Ideal S2x528x128 .f32) :
    (cfg0.win 6).cut (grid0.coords t) X = ((cfg0.win 6).blk t).view.read (Elt Ideal) X := by
  funext j
  show X j = X (((cfg0.win 6).blk t).view.emb j)
  rw [emb6]
theorem flushed6_eq (c : Dev nD) (t : Fin cfg0.N) :
    (dats m 0 c).flushed 6 t = ((cfg0.win 6).blk t).view.read (Elt Ideal) (G6 (m ((c : Thread nD τ).loc main_arg0)) (m ((c : Thread nD τ).loc main_arg1)) (m ((c : Thread nD τ).loc main_arg2)) (m ((c : Thread nD τ).loc main_arg3))) := by
  show (cfg0.win 6).cut (grid0.coords t) ((dats m 0 c).after 6 t) = _
  rw [after0_6, out6_eq, iblk0_eq, iblk1_eq, iblk2_eq, iblk3_eq]
  exact cut6_eq t _
theorem covered6 (i : S2x528x128.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  (dats m 0 c).arrAt_eq_of_cover 6 _ (fun t _ => flushed6_eq m c t) covered6

/-- The reference's run: its outputs are those functions of its arguments, its arguments are as they were. -/
theorem run : θ_run defs (onTc (τ := τ) (main (F := Ideal))) ⟨m, fun _ => 0, ρ⟩ fun r => ∀ c : Dev nD,
      r.2.mem ((c.tc : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final4 m c), ((h c).1 5).trans (final5 m c), ((h c).1 6).trans (final6 m c),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _),
    (h c).2 main_arg4 (Pipeline.mem_restRefs_of main_arg4 (by decide) (by decide))⟩) (run_main m ρ)

end Cert.FwdRefIdeal.Run

end
-- ==== Proof.FwdValue.lean ====
/- The forward kernel and its reference agree on the groups that the grid runs over. -/
module

public import proofs.«01_k».proof.Proof.Frames
public import proofs.«01_k».proof.Proof.FwdCarry
public import proofs.«01_k».proof.Proof.FwdRefRun
public import proofs.«01_k».proof.Proof.Gen.On_live_fwd

@[expose] public section

set_option maxRecDepth 16384

noncomputable section

namespace Cert.FwdIdeal.Final

open Cert.FwdIdeal Cert.FwdIdeal.Gen Cert.FwdIdeal.Path Cert.FwdIdeal.Geom Cert.FwdIdeal.Rows Cert.FwdIdeal.Carried
open Idealize.ShloMosaic Idealize.ShloMosaic.TcCoe Idealize.SL.Sem Cert.FwdMath
open Cert.FwdRefIdeal.Run (G4 G5 G6)

variable (ch : Fin 3) (m : (ℓ : Loc nD τ sig) → Buf (Elt Ideal) ℓ) (ρ : Dev nD → PrngReg)

/-- The point of group `g` at chunk `k`. -/
def point (g : Fin 2) (hg : g.val < ch.val) (k : Fin 32) : Fin (cfgA ch).N :=
  ⟨g.val * 32 + k.val, by rw [points]; omega⟩

theorem grp_point (g : Fin 2) (hg : g.val < ch.val) (k : Fin 32) : Geom.grp ch (point ch g hg k) = g :=
  Fin.ext (by show (g.val * 32 + k.val) / 32 = g.val; omega)
theorem chunk_point (g : Fin 2) (hg : g.val < ch.val) (k : Fin 32) : chunk ch (point ch g hg k) = k :=
  Fin.ext (by show (g.val * 32 + k.val) % 32 = k.val; omega)

theorem col_split (j : Fin 49152) : col ⟨j.val / 1536, by omega⟩ ⟨j.val % 1536, by omega⟩ = j :=
  Fin.ext (by show j.val / 1536 * 1536 + j.val % 1536 = j.val; omega)

theorem final4 (c : Dev nD) (g : Fin 2) (hg : g.val < ch.val) (r : Fin 528) (j : Fin 49152) :
    (dats ch m ρ 0 c).arrAt 4 (cfgA ch).N (ix3 g r j) = G4 (A0 m c) (A1 m c) (A2 m c) (A3 m c) (ix3 g r j) := by
  have key (k : Fin 32) (l : Fin 1536) : (dats ch m ρ 0 c).arrAt 4 (cfgA ch).N (ix3 g r (col k l))
      = G4 (A0 m c) (A1 m c) (A2 m c) (A3 m c) (ix3 g r (col k l)) := by
    have h := arr4_at ch m ρ c (point ch g hg k) r l
    rw [grp_point, chunk_point] at h
    rw [h, traj0_eq, step_u]
    refine (u9_at _ _ _ _ r l).trans ?_
    refine (block_at (A0 m c) (A1 m c) (A2 m c) (A3 m c) (Geom.grp ch (point ch g hg k)) (chunk ch (point ch g hg k)) _ _ _ _ (iblk0_at ch m ρ c _) (iblk1_at ch m ρ c _)
      (iblk2_at ch m ρ c _) (iblk3_at ch m ρ c _) r l).trans ?_
    rw [grp_point, chunk_point]
    exact ref4 _ _ _ _ _ _ _ _
  have h := key ⟨j.val / 1536, by omega⟩ ⟨j.val % 1536, by omega⟩
  rwa [col_split] at h

/-- A group's last point: every row carries what it should of all 32 chunks. -/
theorem last_inv (c : Dev nD) (g : Fin 2) (hg : g.val < ch.val) (r : Fin 528) :
    Inv (A0 m c) (A1 m c) (A2 m c) (A3 m c) g 32
      (carry (traj0 ch m ρ c (point ch g hg 31).val (point ch g hg 31).isLt)) r := by
  have h := traj_inv ch m ρ c r (point ch g hg 31).val (point ch g hg 31).isLt
  have e : (point ch g hg 31).val % 32 + 1 = 32 := by show (g.val * 32 + 31) % 32 + 1 = 32; omega
  have e' : Geom.grp ch ⟨(point ch g hg 31).val, (point ch g hg 31).isLt⟩ = g := grp_point ch g hg 31
  rwa [e, e'] at h

theorem last_mod (g : Fin 2) (hg : g.val < ch.val) : (point ch g hg 31).val % 32 = 31 := by
  show (g.val * 32 + 31) % 32 = 31; omega

theorem final5 (c : Dev nD) (g : Fin 2) (hg : g.val < ch.val) (r : Fin 528) (a : Fin 128) :
    (dats ch m ρ 0 c).arrAt 5 (cfgA ch).N (ix3 g r a) = G5 (A0 m c) (A1 m c) (A2 m c) (A3 m c) (ix3 g r a) := by
  have h := arr5_at ch m ρ c (point ch g hg 31) (last_mod ch g hg) r a
  rw [grp_point] at h
  exact h.trans (ref5 _ _ _ _ _ _ r (last_inv ch m ρ c g hg r) a)

theorem last_stat (c : Dev nD) (t : Fin (cfgA ch).N) (ht : t.val % 32 = 31) :
    (traj0 ch m ρ c t.val t.isLt).2.2.1 = (carry (traj0 ch m ρ c t.val t.isLt)).stat := by
  have q0 : ¬ P0_0 ch t := fun h => by have := (coords ch t).2.1.1 h; omega
  have q1 : P0_1 ch t := (coords ch t).2.2.2 ht
  rw [traj0_eq, stat_C ch m ρ c t _ q0 q1, carry_C ch m ρ c t _ q0 q1]

theorem final6 (c : Dev nD) (g : Fin 2) (hg : g.val < ch.val) (r : Fin 528) (a : Fin 128) :
    (dats ch m ρ 0 c).arrAt 6 (cfgA ch).N (ix3 g r a) = G6 (A0 m c) (A1 m c) (A2 m c) (A3 m c) (ix3 g r a) := by
  have h := arr6_at ch m ρ c (point ch g hg 31) (last_mod ch g hg) r a
  rw [grp_point] at h
  rw [h, last_stat ch m ρ c _ (last_mod ch g hg)]
  exact ref6 _ _ _ _ _ _ r (last_inv ch m ρ c g hg r) a

end Cert.FwdIdeal.Final

namespace Cert.Proof

open Idealize.ShloMosaic Idealize.ShloMosaic.TcCoe Idealize.SL.Sem
open Cert.FwdRefIdeal.Run (G4 G5 G6)

/-- The mask at group `g`: set only below the count of groups. -/
theorem live_of_mask (g : Fin 2) (ch : Fin 3)
    (h : IntOp.cmpi .slt (BitVec.ofNat 32 g.val) (BitVec.ofNat 32 ch.val) = 1#1) : g.val < ch.val := by
  revert h; revert g ch; decide

theorem ix3_split {a b d : ℕ} (i : (⟨3, ![a, b, d]⟩ : Shape).Idx) : i = ix3 (i 0 : Fin a) (i 1 : Fin b) (i 2 : Fin d) := by
  funext x; fin_cases x <;> rfl

/-- The kernel and the reference agree wherever the mask is set. -/
theorem algebraic_fwd : Cert.algebraic_FwdIdeal_FwdRefIdeal_on_live_fwd (hFwdIdeal := Cert.FwdIdeal.Gen.facts)
    (hFwdRefIdeal := Cert.FwdRefIdeal.Gen.facts) (hPre_groups_fwd := Cert.Pre_groups_fwd.Gen.facts) (hOn_live_fwd := Cert.On_live_fwd.Gen.facts) := by
  intro m ρ m' ρ' hpre hargs
  obtain ⟨ch, hp⟩ := pinned_fwdIdeal m hpre
  have hc (c : Dev FwdIdeal.nD) : m ((c.tc : Thread FwdIdeal.nD FwdIdeal.τ).loc FwdIdeal.main_arg4) = fun _ => BitVec.ofNat 32 ch.val := hp c
  refine ⟨fun c => G4 (m ((c.tc : Thread FwdIdeal.nD FwdIdeal.τ).loc FwdIdeal.main_arg0)) (m ((c.tc : Thread FwdIdeal.nD FwdIdeal.τ).loc FwdIdeal.main_arg1)) (m ((c.tc : Thread FwdIdeal.nD FwdIdeal.τ).loc FwdIdeal.main_arg2)) (m ((c.tc : Thread FwdIdeal.nD FwdIdeal.τ).loc FwdIdeal.main_arg3)),
    fun c => G5 (m ((c.tc : Thread FwdIdeal.nD FwdIdeal.τ).loc FwdIdeal.main_arg0)) (m ((c.tc : Thread FwdIdeal.nD FwdIdeal.τ).loc FwdIdeal.main_arg1)) (m ((c.tc : Thread FwdIdeal.nD FwdIdeal.τ).loc FwdIdeal.main_arg2)) (m ((c.tc : Thread FwdIdeal.nD FwdIdeal.τ).loc FwdIdeal.main_arg3)),
    fun c => G6 (m ((c.tc : Thread FwdIdeal.nD FwdIdeal.τ).loc FwdIdeal.main_arg0)) (m ((c.tc : Thread FwdIdeal.nD FwdIdeal.τ).loc FwdIdeal.main_arg1)) (m ((c.tc : Thread FwdIdeal.nD FwdIdeal.τ).loc FwdIdeal.main_arg2)) (m ((c.tc : Thread FwdIdeal.nD FwdIdeal.τ).loc FwdIdeal.main_arg3)), ?_, ?_⟩
  · refine (θ_run _ _ _).mono (fun r h c => ?_) (Cert.FwdIdeal.Gen.run_main ch m ρ hp)
    have arr := (h c).1
    refine ⟨fun i hi => ?_, fun i hi => ?_, fun i hi => ?_, (arr (0 : Fin 7)).trans ((Cert.FwdIdeal.Gen.dats ch m ρ 0 c).arrAt_in (0 : Fin 7) rfl _),
      (arr (1 : Fin 7)).trans ((Cert.FwdIdeal.Gen.dats ch m ρ 0 c).arrAt_in (1 : Fin 7) rfl _), (arr (2 : Fin 7)).trans ((Cert.FwdIdeal.Gen.dats ch m ρ 0 c).arrAt_in (2 : Fin 7) rfl _),
      (arr (3 : Fin 7)).trans ((Cert.FwdIdeal.Gen.dats ch m ρ 0 c).arrAt_in (3 : Fin 7) rfl _), ((h c).2 0).trans (hp c).symm⟩
    · rw [hc] at hi
      have hg : (i 0 : Fin 2).val < ch.val := live_of_mask _ _ hi
      refine (congrFun (arr (4 : Fin 7)) i).trans ?_
      rw [ix3_split i]
      exact Cert.FwdIdeal.Final.final4 ch m ρ c _ hg _ _
    · rw [hc] at hi
      have hg : (i 0 : Fin 2).val < ch.val := live_of_mask _ _ hi
      refine (congrFun (arr (5 : Fin 7)) i).trans ?_
      rw [ix3_split i]
      exact Cert.FwdIdeal.Final.final5 ch m ρ c _ hg _ _
    · rw [hc] at hi
      have hg : (i 0 : Fin 2).val < ch.val := live_of_mask _ _ hi
      refine (congrFun (arr (6 : Fin 7)) i).trans ?_
      rw [ix3_split i]
      exact Cert.FwdIdeal.Final.final6 ch m ρ c _ hg _ _
  · refine (θ_run _ _ _).mono (fun r h c => ?_) (Cert.FwdRefIdeal.Run.run m' ρ')
    obtain ⟨h4, h5, h6, k⟩ := h c
    obtain ⟨e0, e1, e2, e3, -⟩ := hargs c
    rw [e0, e1, e2, e3] at h4 h5 h6
    exact ⟨fun i _ => congrFun h4 i, fun i _ => congrFun h5 i, fun i _ => congrFun h6 i, k⟩

end Cert.Proof

end
-- ==== Proof.BwdFrame.Pins.lean ====
/- The backward pass (the kernel): the counts of groups, and what is pinned by them. -/
module

public import proofs.«01_k».proof.Defs
public import proofs.«01_k».proof.Proof.Gen.Bwd
public import proofs.«01_k».proof.Proof.Gen.Bwd.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
-- one declaration at a time, which holds less memory
set_option Elab.async false

noncomputable section

namespace Cert.Bwd.Gen

open Cert.Bwd
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The pinned words: the tables and the steering windows' arrays, in terms of the count `ch` -/

/- The count of groups, 0, 1 or 2, for which everything below is stated. -/
variable (ch : Fin 3)

/-- The word that holds the count (`main_arg6`, a scalar). -/
def pinT_0 (ch : Fin 3) : S_.Idx → BitVec 32 := fun x => (BitVec.ofNat 32 ch.val)

set_option backward.proofsInPublic true in
/-- What the grid reads before it starts: that word alone. -/
def pfN : pre0.Contents (Elt Bits) := fun | ⟨0, _⟩ => pinT_0 ch | ⟨_ + 1, h⟩ => absurd h (by simp)
/-- A window's blocks lie inside its array, entry by entry. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The launch memory holds the count `ch`. The precondition gives such a `ch`. -/
def Pinned (m : (ℓ : Loc nD τ sig) → Buf (Elt Bits) ℓ) : Prop :=
  (∀ c : Dev nD, m ((c : Thread nD τ).loc main_arg6) = pinT_0 ch)

end Cert.Bwd.Gen

end
-- ==== Proof.BwdFrame.Runs.lean ====
/- The backward pass (the kernel): the body of one point, followed along each of its two paths. -/
module

public import proofs.«01_k».proof.Proof.Gen.Bwd.Skeleton
public import proofs.«01_k».proof.Proof.BwdFrame.Pins

@[expose] public section

set_option maxRecDepth 16384
-- one declaration at a time, which holds less memory
set_option Elab.async false

noncomputable section

namespace Cert.Bwd.Gen

open Cert.Bwd
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-! ## The kernel body per control path, on symbolic staging memrefs: a subtype the run finds -/

/-- One staging buffer of output window 6, through which its contents are stated (`View.read_writes_of_cover`). -/
abbrev VO0_6 : View sig .tc .vmem S1x528x1024 .f32 := (Memref.whole cc0_stg6_0 : Memref sig .tc .vmem S1x528x1024 .f32).view
/-- One staging buffer of output window 7, through which its contents are stated (`View.read_writes_of_cover`). -/
abbrev VO0_7 : View sig .tc .vmem S1x528x128 .f32 := (Memref.whole cc0_stg7_0 : Memref sig .tc .vmem S1x528x128 .f32).view

set_option backward.proofsInPublic true in
set_option maxHeartbeats 8000000 in
/-- PATH A (points 3 of 96, in members 1‥2 of 3): what the body leaves — per stored output its pieces (last first), per scratch its
    contents — WITH the proof that, on whole staging memrefs, from the inputs at their blocks, the tables, the outputs
    (6: stored, 7: stored) and the scratches (none), under the path's decisions as
    hypotheses over the words the body reads (`k0_h1`), the body runs to the continuation holding all of it as stated. The
    skeleton (`Gen.*_eq_skeleton`) run by `sl_exec`, loops of literal trip count unrolled by the run, the others by `sl_unroll`. -/
noncomputable def kernelRun0_A (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (k0_h1 : (Scalar.cmpi .ne (Scalar.extui (Scalar.cmpi .eq (BitVec.ofNat 32 (i 1).val) 0#32)) 0#32) = 1#1) :
    Σ' (out0 : List (View.Piece (Elt Bits) S1x528x1024 .f32)), { out1 : List (View.Piece (Elt Bits) S1x528x128 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (∃ d, owns (c : Thread nD τ) arg8 fullShare d)
          ∗ (∃ d, owns (c : Thread nD τ) arg9 fullShare d)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (∃ f, arg8.view.loc (c : Thread nD τ) ↦[arg8.view.set]{fullShare} arg8.view.writes (Elt Bits) f out0)
              ∗ (∃ f, arg9.view.loc (c : Thread nD τ) ↦[arg9.view.set]{fullShare} arg9.view.writes (Elt Bits) f out1)) -∗ K ⟨⟩))
          ⊢ wp frame (wpE (defs₀ (F := Bits)) Variants.none c none) Set.univ (cc0_vocab_bwd b i arg0 arg2 harg2 arg3 harg3 arg4 harg4 arg5 harg5 arg6 harg6 arg7 harg7 arg8 harg8 arg9 harg9) K } :=
  ⟨_, _, fun K => by
    unfold owns
    rw [cc0_vocab_bwd_eq_skeleton]; unfold cc0_vocab_bwd_skel
    iintro ⟨H0, H1, H2, H3, H4, H5, ⟨%d6, %f6, -, HO6⟩, ⟨%d7, %f7, -, HO7⟩, Hk⟩
    sl_exec! (disch := first | (guard_target = Scalar.cmpi = _; exact k0_h1))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HO6]; · iexists _; iexact HO6
    iexists _; iexact HO7⟩

/-- Path A's pieces for output 6 tile its block (2 stores of `S1x528x1024`: the kernel evaluates the tiling, Lib/Ring.lean `Piece.tiledL`). -/
theorem cover0_A_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (k0_h1 : (Scalar.cmpi .ne (Scalar.extui (Scalar.cmpi .eq (BitVec.ofNat 32 (i 1).val) 0#32)) 0#32) = 1#1) (y : S1x528x1024.Idx) :
    ∃ pc ∈ (kernelRun0_A c b i arg0 arg2 harg2 arg3 harg3 arg4 harg4 arg5 harg5 arg6 harg6 arg7 harg7 arg8 harg8 arg9 harg9 x0 x1 x2 x3 x4 x5 k0_h1).1, y ∈ pc.1.set :=
  View.cover_of_tiledL (kernelRun0_A c b i arg0 arg2 harg2 arg3 harg3 arg4 harg4 arg5 harg5 arg6 harg6 arg7 harg7 arg8 harg8 arg9 harg9 x0 x1 x2 x3 x4 x5 k0_h1).1 S1x528x1024.size (by sl_kernel_rfl) y

/-- What path A leaves in output 6's staging buffer: its pieces read back over junk. -/
def out0_A_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (k0_h1 : (Scalar.cmpi .ne (Scalar.extui (Scalar.cmpi .eq (BitVec.ofNat 32 (i 1).val) 0#32)) 0#32) = 1#1) : (S1x528x1024.Idx → Elt Bits .f32) :=
  VO0_6.read (Elt Bits) (VO0_6.writes (Elt Bits) VO0_6.junk (kernelRun0_A c b i arg0 arg2 harg2 arg3 harg3 arg4 harg4 arg5 harg5 arg6 harg6 arg7 harg7 arg8 harg8 arg9 harg9 x0 x1 x2 x3 x4 x5 k0_h1).1)

/-- Path A's pieces for output 7 tile its block (2 stores of `S1x528x128`: the kernel evaluates the tiling, Lib/Ring.lean `Piece.tiledL`). -/
theorem cover0_A_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (k0_h1 : (Scalar.cmpi .ne (Scalar.extui (Scalar.cmpi .eq (BitVec.ofNat 32 (i 1).val) 0#32)) 0#32) = 1#1) (y : S1x528x128.Idx) :
    ∃ pc ∈ (kernelRun0_A c b i arg0 arg2 harg2 arg3 harg3 arg4 harg4 arg5 harg5 arg6 harg6 arg7 harg7 arg8 harg8 arg9 harg9 x0 x1 x2 x3 x4 x5 k0_h1).2.1, y ∈ pc.1.set :=
  View.cover_of_tiledL (kernelRun0_A c b i arg0 arg2 harg2 arg3 harg3 arg4 harg4 arg5 harg5 arg6 harg6 arg7 harg7 arg8 harg8 arg9 harg9 x0 x1 x2 x3 x4 x5 k0_h1).2.1 S1x528x128.size (by sl_kernel_rfl) y

/-- What path A leaves in output 7's staging buffer: its pieces read back over junk. -/
def out0_A_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (k0_h1 : (Scalar.cmpi .ne (Scalar.extui (Scalar.cmpi .eq (BitVec.ofNat 32 (i 1).val) 0#32)) 0#32) = 1#1) : (S1x528x128.Idx → Elt Bits .f32) :=
  VO0_7.read (Elt Bits) (VO0_7.writes (Elt Bits) VO0_7.junk (kernelRun0_A c b i arg0 arg2 harg2 arg3 harg3 arg4 harg4 arg5 harg5 arg6 harg6 arg7 harg7 arg8 harg8 arg9 harg9 x0 x1 x2 x3 x4 x5 k0_h1).2.1)

set_option backward.proofsInPublic true in
set_option maxHeartbeats 8000000 in
/-- PATH B (points 93 of 96, in members 1‥2 of 3): what the body leaves — per stored output its pieces (last first), per scratch its
    contents — WITH the proof that, on whole staging memrefs, from the inputs at their blocks, the tables, the outputs
    (6: live, 7: live) and the scratches (none), under the path's decisions as
    hypotheses over the words the body reads (`k0_h1`), the body runs to the continuation holding all of it as stated. The
    skeleton (`Gen.*_eq_skeleton`) run by `sl_exec`, loops of literal trip count unrolled by the run, the others by `sl_unroll`. -/
noncomputable def kernelRun0_B (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (xo6 : (S1x528x1024.Idx → Elt Bits .f32)) (xo7 : (S1x528x128.Idx → Elt Bits .f32)) (k0_h1 : ¬((Scalar.cmpi .ne (Scalar.extui (Scalar.cmpi .eq (BitVec.ofNat 32 (i 1).val) 0#32)) 0#32) = 1#1)) :
    Σ' (out0 : List (View.Piece (Elt Bits) S1x528x1024 .f32)), { out1 : List (View.Piece (Elt Bits) S1x528x128 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ owns (c : Thread nD τ) arg8 fullShare xo6
          ∗ owns (c : Thread nD τ) arg9 fullShare xo7
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (∃ f, arg8.view.loc (c : Thread nD τ) ↦[arg8.view.set]{fullShare} arg8.view.writes (Elt Bits) f out0)
              ∗ (∃ f, arg9.view.loc (c : Thread nD τ) ↦[arg9.view.set]{fullShare} arg9.view.writes (Elt Bits) f out1)) -∗ K ⟨⟩))
          ⊢ wp frame (wpE (defs₀ (F := Bits)) Variants.none c none) Set.univ (cc0_vocab_bwd b i arg0 arg2 harg2 arg3 harg3 arg4 harg4 arg5 harg5 arg6 harg6 arg7 harg7 arg8 harg8 arg9 harg9) K } :=
  ⟨_, _, fun K => by
    unfold owns
    rw [cc0_vocab_bwd_eq_skeleton]; unfold cc0_vocab_bwd_skel
    iintro ⟨H0, H1, H2, H3, H4, H5, ⟨%f6, %hf6, HO6⟩, ⟨%f7, %hf7, HO7⟩, Hk⟩
    obtain rfl := harg8.eq_unread hf6; obtain rfl := harg9.eq_unread hf7
    sl_exec! (disch := first | (guard_target = ¬(Scalar.cmpi = _); exact k0_h1))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HO6]; · iexists _; iexact HO6
    iexists _; iexact HO7⟩

/-- Path B's pieces for output 6 tile its block (1 store of `S1x528x1024`: the kernel evaluates the tiling, Lib/Ring.lean `Piece.tiledL`). -/
theorem cover0_B_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (xo6 : (S1x528x1024.Idx → Elt Bits .f32)) (xo7 : (S1x528x128.Idx → Elt Bits .f32)) (k0_h1 : ¬((Scalar.cmpi .ne (Scalar.extui (Scalar.cmpi .eq (BitVec.ofNat 32 (i 1).val) 0#32)) 0#32) = 1#1)) (y : S1x528x1024.Idx) :
    ∃ pc ∈ (kernelRun0_B c b i arg0 arg2 harg2 arg3 harg3 arg4 harg4 arg5 harg5 arg6 harg6 arg7 harg7 arg8 harg8 arg9 harg9 x0 x1 x2 x3 x4 x5 xo6 xo7 k0_h1).1, y ∈ pc.1.set :=
  View.cover_of_tiledL (kernelRun0_B c b i arg0 arg2 harg2 arg3 harg3 arg4 harg4 arg5 harg5 arg6 harg6 arg7 harg7 arg8 harg8 arg9 harg9 x0 x1 x2 x3 x4 x5 xo6 xo7 k0_h1).1 S1x528x1024.size (by sl_kernel_rfl) y

/-- What path B leaves in output 6's staging buffer: its pieces read back over junk. -/
def out0_B_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (xo6 : (S1x528x1024.Idx → Elt Bits .f32)) (xo7 : (S1x528x128.Idx → Elt Bits .f32)) (k0_h1 : ¬((Scalar.cmpi .ne (Scalar.extui (Scalar.cmpi .eq (BitVec.ofNat 32 (i 1).val) 0#32)) 0#32) = 1#1)) : (S1x528x1024.Idx → Elt Bits .f32) :=
  VO0_6.read (Elt Bits) (VO0_6.writes (Elt Bits) VO0_6.junk (kernelRun0_B c b i arg0 arg2 harg2 arg3 harg3 arg4 harg4 arg5 harg5 arg6 harg6 arg7 harg7 arg8 harg8 arg9 harg9 x0 x1 x2 x3 x4 x5 xo6 xo7 k0_h1).1)

/-- Path B's pieces for output 7 tile its block (1 store of `S1x528x128`: the kernel evaluates the tiling, Lib/Ring.lean `Piece.tiledL`). -/
theorem cover0_B_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (xo6 : (S1x528x1024.Idx → Elt Bits .f32)) (xo7 : (S1x528x128.Idx → Elt Bits .f32)) (k0_h1 : ¬((Scalar.cmpi .ne (Scalar.extui (Scalar.cmpi .eq (BitVec.ofNat 32 (i 1).val) 0#32)) 0#32) = 1#1)) (y : S1x528x128.Idx) :
    ∃ pc ∈ (kernelRun0_B c b i arg0 arg2 harg2 arg3 harg3 arg4 harg4 arg5 harg5 arg6 harg6 arg7 harg7 arg8 harg8 arg9 harg9 x0 x1 x2 x3 x4 x5 xo6 xo7 k0_h1).2.1, y ∈ pc.1.set :=
  View.cover_of_tiledL (kernelRun0_B c b i arg0 arg2 harg2 arg3 harg3 arg4 harg4 arg5 harg5 arg6 harg6 arg7 harg7 arg8 harg8 arg9 harg9 x0 x1 x2 x3 x4 x5 xo6 xo7 k0_h1).2.1 S1x528x128.size (by sl_kernel_rfl) y

/-- What path B leaves in output 7's staging buffer: its pieces read back over junk. -/
def out0_B_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Bits .f32)) (x1 : (S1x528x128.Idx → Elt Bits .f32)) (x2 : (S1x528x128.Idx → Elt Bits .f32)) (x3 : (S1x528x128.Idx → Elt Bits .f32)) (x4 : (S1024x1536.Idx → Elt Bits .fp8e4m3)) (x5 : (S16x1536.Idx → Elt Bits .bf16)) (xo6 : (S1x528x1024.Idx → Elt Bits .f32)) (xo7 : (S1x528x128.Idx → Elt Bits .f32)) (k0_h1 : ¬((Scalar.cmpi .ne (Scalar.extui (Scalar.cmpi .eq (BitVec.ofNat 32 (i 1).val) 0#32)) 0#32) = 1#1)) : (S1x528x128.Idx → Elt Bits .f32) :=
  VO0_7.read (Elt Bits) (VO0_7.writes (Elt Bits) VO0_7.junk (kernelRun0_B c b i arg0 arg2 harg2 arg3 harg3 arg4 harg4 arg5 harg5 arg6 harg6 arg7 harg7 arg8 harg8 arg9 harg9 x0 x1 x2 x3 x4 x5 xo6 xo7 k0_h1).2.1)

end Cert.Bwd.Gen

end
-- ==== Proof.BwdFrame.Ok.lean ====
/- The backward pass (the kernel): the side conditions of its windows, for each count of groups. -/
module

public import proofs.«01_k».proof.Proof.BwdFrame.Pins

@[expose] public section

set_option maxRecDepth 16384
-- one declaration at a time, which holds less memory
set_option Elab.async false

noncomputable section

namespace Cert.Bwd.Gen

open Cert.Bwd
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem ok_grid : ∀ ch : Fin 3, grid0.Admits (dynb0 (pfN ch)) := by decide +kernel
theorem inside_0 : ∀ (ch : Fin 3) (i : (grid0.at (dynb0 (pfN ch))).Coords), ∀ a, (cc0_transform_0 (dynb0 (pfN ch)) i a + 1) * S1x528x1536.size a ≤ S2x528x49152.size a := by decide +kernel
theorem ok_0 (ch : Fin 3) : (∀ i : (grid0.at (dynb0 (pfN ch))).Coords, ∃ h : (∀ a, (cc0_transform_0 (dynb0 (pfN ch)) i a + 1) * S1x528x1536.size a ≤ S2x528x49152.size a), EltTy.bits .f32 = 32 ∨ (Rect.block (s := S2x528x49152) S1x528x1536.size (cc0_transform_0 (dynb0 (pfN ch)) i) h).WholeWords (EltTy.packing .f32)) := fun i => ⟨inside_0 ch i, .inl rfl⟩
theorem inside_1 : ∀ (ch : Fin 3) (i : (grid0.at (dynb0 (pfN ch))).Coords), ∀ a, (cc0_transform_1 (dynb0 (pfN ch)) i a + 1) * S1x528x128.size a ≤ S2x528x128.size a := by decide +kernel
theorem ok_1 (ch : Fin 3) : (∀ i : (grid0.at (dynb0 (pfN ch))).Coords, ∃ h : (∀ a, (cc0_transform_1 (dynb0 (pfN ch)) i a + 1) * S1x528x128.size a ≤ S2x528x128.size a), EltTy.bits .f32 = 32 ∨ (Rect.block (s := S2x528x128) S1x528x128.size (cc0_transform_1 (dynb0 (pfN ch)) i) h).WholeWords (EltTy.packing .f32)) := fun i => ⟨inside_1 ch i, .inl rfl⟩
theorem inside_2 : ∀ (ch : Fin 3) (i : (grid0.at (dynb0 (pfN ch))).Coords), ∀ a, (cc0_transform_2 (dynb0 (pfN ch)) i a + 1) * S1x528x128.size a ≤ S2x528x128.size a := by decide +kernel
theorem ok_2 (ch : Fin 3) : (∀ i : (grid0.at (dynb0 (pfN ch))).Coords, ∃ h : (∀ a, (cc0_transform_2 (dynb0 (pfN ch)) i a + 1) * S1x528x128.size a ≤ S2x528x128.size a), EltTy.bits .f32 = 32 ∨ (Rect.block (s := S2x528x128) S1x528x128.size (cc0_transform_2 (dynb0 (pfN ch)) i) h).WholeWords (EltTy.packing .f32)) := fun i => ⟨inside_2 ch i, .inl rfl⟩
theorem inside_3 : ∀ (ch : Fin 3) (i : (grid0.at (dynb0 (pfN ch))).Coords), ∀ a, (cc0_transform_3 (dynb0 (pfN ch)) i a + 1) * S1x528x128.size a ≤ S2x528x128.size a := by decide +kernel
theorem ok_3 (ch : Fin 3) : (∀ i : (grid0.at (dynb0 (pfN ch))).Coords, ∃ h : (∀ a, (cc0_transform_3 (dynb0 (pfN ch)) i a + 1) * S1x528x128.size a ≤ S2x528x128.size a), EltTy.bits .f32 = 32 ∨ (Rect.block (s := S2x528x128) S1x528x128.size (cc0_transform_3 (dynb0 (pfN ch)) i) h).WholeWords (EltTy.packing .f32)) := fun i => ⟨inside_3 ch i, .inl rfl⟩
theorem inside_4 : ∀ (ch : Fin 3) (i : (grid0.at (dynb0 (pfN ch))).Coords), ∀ a, (cc0_transform_4 (dynb0 (pfN ch)) i a + 1) * S1024x1536.size a ≤ S1024x49152.size a := by
  intro ch i
  have r_i1 : (i 1).val < 32 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  exact Affine.blk_cons h_c0_i32 (by omega) <| Affine.blk_cons h_arg1 (by omega) <| Affine.blk_nil
theorem ok_4 (ch : Fin 3) : (∀ i : (grid0.at (dynb0 (pfN ch))).Coords, ∃ h : (∀ a, (cc0_transform_4 (dynb0 (pfN ch)) i a + 1) * S1024x1536.size a ≤ S1024x49152.size a), EltTy.bits .fp8e4m3 = 32 ∨ (Rect.block (s := S1024x49152) S1024x1536.size (cc0_transform_4 (dynb0 (pfN ch)) i) h).WholeWords (EltTy.packing .fp8e4m3)) := fun i => ⟨inside_4 ch i, .inr (Affine.block_words_dvd (s := S1024x49152) (p := EltTy.packing .fp8e4m3) (by decide) (by decide))⟩
theorem inside_5 : ∀ (ch : Fin 3) (i : (grid0.at (dynb0 (pfN ch))).Coords), ∀ a, (cc0_transform_5 (dynb0 (pfN ch)) i a + 1) * S16x1536.size a ≤ S16x49152.size a := by
  intro ch i
  have r_i1 : (i 1).val < 32 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  exact Affine.blk_cons h_c0_i32 (by omega) <| Affine.blk_cons h_arg1 (by omega) <| Affine.blk_nil
theorem ok_5 (ch : Fin 3) : (∀ i : (grid0.at (dynb0 (pfN ch))).Coords, ∃ h : (∀ a, (cc0_transform_5 (dynb0 (pfN ch)) i a + 1) * S16x1536.size a ≤ S16x49152.size a), EltTy.bits .bf16 = 32 ∨ (Rect.block (s := S16x49152) S16x1536.size (cc0_transform_5 (dynb0 (pfN ch)) i) h).WholeWords (EltTy.packing .bf16)) := fun i => ⟨inside_5 ch i, .inr (Affine.block_words_dvd (s := S16x49152) (p := EltTy.packing .bf16) (by decide) (by decide))⟩
theorem inside_6 : ∀ (ch : Fin 3) (i : (grid0.at (dynb0 (pfN ch))).Coords), ∀ a, (cc0_transform_6 (dynb0 (pfN ch)) i a + 1) * S1x528x1024.size a ≤ S2x528x1024.size a := by decide +kernel
theorem ok_6 (ch : Fin 3) : (∀ i : (grid0.at (dynb0 (pfN ch))).Coords, ∃ h : (∀ a, (cc0_transform_6 (dynb0 (pfN ch)) i a + 1) * S1x528x1024.size a ≤ S2x528x1024.size a), EltTy.bits .f32 = 32 ∨ (Rect.block (s := S2x528x1024) S1x528x1024.size (cc0_transform_6 (dynb0 (pfN ch)) i) h).WholeWords (EltTy.packing .f32)) := fun i => ⟨inside_6 ch i, .inl rfl⟩
theorem inside_7 : ∀ (ch : Fin 3) (i : (grid0.at (dynb0 (pfN ch))).Coords), ∀ a, (cc0_transform_7 (dynb0 (pfN ch)) i a + 1) * S1x528x128.size a ≤ S2x528x128.size a := by decide +kernel
theorem ok_7 (ch : Fin 3) : (∀ i : (grid0.at (dynb0 (pfN ch))).Coords, ∃ h : (∀ a, (cc0_transform_7 (dynb0 (pfN ch)) i a + 1) * S1x528x128.size a ≤ S2x528x128.size a), EltTy.bits .f32 = 32 ∨ (Rect.block (s := S2x528x128) S1x528x128.size (cc0_transform_7 (dynb0 (pfN ch)) i) h).WholeWords (EltTy.packing .f32)) := fun i => ⟨inside_7 ch i, .inl rfl⟩
/-- The grid runs and every block lies inside its array, whatever the count. -/
theorem ok_pfN (ch : Fin 3) : ok0 (F := Bits) (pfN ch) := ⟨ok_grid ch, ok_0 ch, ok_1 ch, ok_2 ch, ok_3 ch, ok_4 ch, ok_5 ch, ok_6 ch, ok_7 ch⟩

end Cert.Bwd.Gen

end
-- ==== Proof.BwdFrame.Cfg.lean ====
/- The backward pass (the kernel): the pipeline at each count of groups. -/
module

public import proofs.«01_k».proof.Proof.BwdFrame.Ok

@[expose] public section

set_option maxRecDepth 16384
-- one declaration at a time, which holds less memory
set_option Elab.async false

noncomputable section

namespace Cert.Bwd.Gen

open Cert.Bwd
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Fin 3)

/-- The admissible contents, the pipeline at them (`cfgA ch`: member `ch`'s grid, 0‥64 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

/-- The run-time bounds the body label is handed (member `ch`'s tables'). -/
abbrev bB : grid0.Bounds := dynb0 (F := Bits) (pfN ch)

variable (m : (ℓ : Loc nD τ sig) → Buf (Elt Bits) ℓ) (ρ : Dev nD → PrngReg)

/-! ## A point's coordinates, words and staging memrefs -/

/-- Point `t`'s coordinates, its static coordinates as the body label hands them, its dynamic axes words. -/
abbrev crd (t : Fin (cfgA ch).N) : (cfgA ch).grid.Coords := (cfgA ch).grid.coords t
abbrev iS (t : Fin (cfgA ch).N) : grid0.Static := Pipeline.Grid.Coords.static grid0 (crd ch t)
abbrev dw0_0 (t : Fin (cfgA ch).N) : BitVec 32 := BitVec.ofNat 32 ((crd ch t) 0).val

/-- Each window's current staging memref at point `t`, spelled as the pipeline passes it, and its wholeness. -/
abbrev ms0_0 (t : Fin (cfgA ch).N) : Memref sig .tc .vmem S1x528x1536 .f32 := spec0_0.stage ((cfgA ch).slots t (0 : Fin 8))
abbrev hs0_0 (t : Fin (cfgA ch).N) : (ms0_0 ch t).IsWhole := hstage0_0 (((cfgA ch).slots t (0 : Fin 8)).cast nbuf0_0)
abbrev ms0_1 (t : Fin (cfgA ch).N) : Memref sig .tc .vmem S1x528x128 .f32 := spec0_1.stage ((cfgA ch).slots t (1 : Fin 8))
abbrev hs0_1 (t : Fin (cfgA ch).N) : (ms0_1 ch t).IsWhole := hstage0_1 (((cfgA ch).slots t (1 : Fin 8)).cast nbuf0_1)
abbrev ms0_2 (t : Fin (cfgA ch).N) : Memref sig .tc .vmem S1x528x128 .f32 := spec0_2.stage ((cfgA ch).slots t (2 : Fin 8))
abbrev hs0_2 (t : Fin (cfgA ch).N) : (ms0_2 ch t).IsWhole := hstage0_2 (((cfgA ch).slots t (2 : Fin 8)).cast nbuf0_2)
abbrev ms0_3 (t : Fin (cfgA ch).N) : Memref sig .tc .vmem S1x528x128 .f32 := spec0_3.stage ((cfgA ch).slots t (3 : Fin 8))
abbrev hs0_3 (t : Fin (cfgA ch).N) : (ms0_3 ch t).IsWhole := hstage0_3 (((cfgA ch).slots t (3 : Fin 8)).cast nbuf0_3)
abbrev ms0_4 (t : Fin (cfgA ch).N) : Memref sig .tc .vmem S1024x1536 .fp8e4m3 := spec0_4.stage ((cfgA ch).slots t (4 : Fin 8))
abbrev hs0_4 (t : Fin (cfgA ch).N) : (ms0_4 ch t).IsWhole := hstage0_4 (((cfgA ch).slots t (4 : Fin 8)).cast nbuf0_4)
abbrev ms0_5 (t : Fin (cfgA ch).N) : Memref sig .tc .vmem S16x1536 .bf16 := spec0_5.stage ((cfgA ch).slots t (5 : Fin 8))
abbrev hs0_5 (t : Fin (cfgA ch).N) : (ms0_5 ch t).IsWhole := hstage0_5 (((cfgA ch).slots t (5 : Fin 8)).cast nbuf0_5)
abbrev ms0_6 (t : Fin (cfgA ch).N) : Memref sig .tc .vmem S1x528x1024 .f32 := spec0_6.stage ((cfgA ch).slots t (6 : Fin 8))
abbrev hs0_6 (t : Fin (cfgA ch).N) : (ms0_6 ch t).IsWhole := hstage0_6 (((cfgA ch).slots t (6 : Fin 8)).cast nbuf0_6)
abbrev ms0_7 (t : Fin (cfgA ch).N) : Memref sig .tc .vmem S1x528x128 .f32 := spec0_7.stage ((cfgA ch).slots t (7 : Fin 8))
abbrev hs0_7 (t : Fin (cfgA ch).N) : (ms0_7 ch t).IsWhole := hstage0_7 (((cfgA ch).slots t (7 : Fin 8)).cast nbuf0_7)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (BitVec.ofNat 32 ((iS ch t) 1).val) 0#32)) 0#32) = 1#1

set_option backward.proofsInPublic true in
/-- Whether output 6 holds junk BEFORE each position `1 ‥ N` of member `ch`'s grid — nothing stored into it since
    its last write-back —: the classifier's table (written back at the point before, or idle there and junk
    before it) as a bitmask, bit `n` for position `n + 1`, which `frTab0_6_step` checks against the pipeline's
    own recursion point by point (a bit test is one kernel step; a list walk or the recursion, hundreds). -/
def frMask0_6 : Fin 3 → ℕ
  | ⟨0, _⟩ => 0x0
  | ⟨1, _⟩ => 0x80000000
  | ⟨2, _⟩ => 0x8000000080000000
  | ⟨_ + 3, h⟩ => absurd h (by omega)
/-- `(cfgA ch).fresh 6` TABULATED (TableIdle.lean `Cfg.fresh_tab`): true before the first point, then the table. -/
def frTab0_6 : ℕ → Bool
  | 0 => true
  | n + 1 => (frMask0_6 ch).testBit n

set_option backward.proofsInPublic true in
/-- Whether output 7 holds junk BEFORE each position `1 ‥ N` of member `ch`'s grid — nothing stored into it since
    its last write-back —: the classifier's table (written back at the point before, or idle there and junk
    before it) as a bitmask, bit `n` for position `n + 1`, which `frTab0_7_step` checks against the pipeline's
    own recursion point by point (a bit test is one kernel step; a list walk or the recursion, hundreds). -/
def frMask0_7 : Fin 3 → ℕ
  | ⟨0, _⟩ => 0x0
  | ⟨1, _⟩ => 0x80000000
  | ⟨2, _⟩ => 0x8000000080000000
  | ⟨_ + 3, h⟩ => absurd h (by omega)
/-- `(cfgA ch).fresh 7` TABULATED (TableIdle.lean `Cfg.fresh_tab`): true before the first point, then the table. -/
def frTab0_7 : ℕ → Bool
  | 0 => true
  | n + 1 => (frMask0_7 ch).testBit n

end Cert.Bwd.Gen

end
-- ==== Proof.BwdFrame.Facts.lean ====
/- The backward pass (the kernel): what has to hold at each point. -/
module

public import proofs.«01_k».proof.Proof.BwdFrame.Cfg

@[expose] public section

set_option maxRecDepth 16384
-- one declaration at a time, which holds less memory
set_option Elab.async false

noncomputable section

namespace Cert.Bwd.Gen

open Cert.Bwd
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Fin 3)
variable (m : (ℓ : Loc nD τ sig) → Buf (Elt Bits) ℓ) (ρ : Dev nD → PrngReg)

/-! ## Every fact about a point as one proposition; the named facts are its parts -/

/-- At point `t`: how the record of which outputs hold nothing yet moves on, and for each path what decides it and what the
    outputs hold. -/
abbrev FactsAt (ch : Fin 3) (t : Fin (cfgA ch).N) : Prop :=
  -- frTab0_6_step, frTab0_7_step, hyps0_A, sched0_A, hyps0_B, sched0_B
  (frTab0_6 ch (t.val + 1) = (((cfgA ch).win (6 : Fin 8)).flush t || ((cfgA ch).idle (6 : Fin 8) ((cfgA ch).grid.coords t) && frTab0_6 ch t.val)))
  ∧ (frTab0_7 ch (t.val + 1) = (((cfgA ch).win (7 : Fin 8)).flush t || ((cfgA ch).idle (7 : Fin 8) ((cfgA ch).grid.coords t) && frTab0_7 ch t.val)))
  ∧ (P0_0 ch t → ((Scalar.cmpi .ne (Scalar.extui (Scalar.cmpi .eq (BitVec.ofNat 32 ((iS ch t) 1).val) 0#32)) 0#32) = 1#1) ∧ (True))
  ∧ (P0_0 ch t → (cfgA ch).idle (6 : Fin 8) ((cfgA ch).grid.coords t) = false ∧ ((cfgA ch).win (6 : Fin 8)).flush t = false ∧ frTab0_6 ch t.val = true ∧ (cfgA ch).idle (7 : Fin 8) ((cfgA ch).grid.coords t) = false ∧ ((cfgA ch).win (7 : Fin 8)).flush t = false ∧ frTab0_7 ch t.val = true)
  ∧ (¬P0_0 ch t → (¬((Scalar.cmpi .ne (Scalar.extui (Scalar.cmpi .eq (BitVec.ofNat 32 ((iS ch t) 1).val) 0#32)) 0#32) = 1#1)) ∧ (True))
  ∧ (¬P0_0 ch t → (cfgA ch).idle (6 : Fin 8) ((cfgA ch).grid.coords t) = false ∧ frTab0_6 ch t.val = false ∧ (cfgA ch).idle (7 : Fin 8) ((cfgA ch).grid.coords t) = false ∧ frTab0_7 ch t.val = false)

set_option synthInstance.maxSize 65536 in
instance FactsAt.dec (ch : Fin 3) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (inferInstance)))))

end Cert.Bwd.Gen

end
-- ==== Proof.BwdFrame.lean ====
/- The backward pass (the kernel): the frame: every run ends, nothing faults, the arguments stay as they were. -/
module

public import proofs.«01_k».proof.Proof.BwdFrame.Runs
public import proofs.«01_k».proof.Proof.BwdFrame.Facts
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
-- one declaration at a time, which holds less memory
set_option Elab.async false

noncomputable section

namespace Cert.Bwd.Gen

open Cert.Bwd
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 3)
variable (m : (ℓ : Loc nD τ sig) → Buf (Elt Bits) ℓ) (ρ : Dev nD → PrngReg)

/-- The facts at every point, for each count of groups. -/
theorem allFacts : ∀ (ch : Fin 3) (t : Fin (cfgA ch).N), FactsAt ch t := by decide +kernel

/-! ## The named facts — the freshness tables' steps, each path's hypotheses and schedule —: its projections -/

theorem frTab0_6_step : ∀ (ch : Fin 3) (t : Fin (cfgA ch).N),
    frTab0_6 ch (t.val + 1) = (((cfgA ch).win (6 : Fin 8)).flush t || ((cfgA ch).idle (6 : Fin 8) ((cfgA ch).grid.coords t) && frTab0_6 ch t.val)) := fun ch t => (allFacts ch t).1
theorem freshF0_6 (t : Fin (cfgA ch).N) : (cfgA ch).fresh (6 : Fin 8) t.val = frTab0_6 ch t.val :=
  Pipeline.Cfg.fresh_tab (cfgA ch) (6 : Fin 8) (frTab0_6 ch) rfl (frTab0_6_step ch) t.val (Nat.le_of_lt t.isLt)

theorem frTab0_7_step : ∀ (ch : Fin 3) (t : Fin (cfgA ch).N),
    frTab0_7 ch (t.val + 1) = (((cfgA ch).win (7 : Fin 8)).flush t || ((cfgA ch).idle (7 : Fin 8) ((cfgA ch).grid.coords t) && frTab0_7 ch t.val)) := fun ch t => (allFacts ch t).2.1
theorem freshF0_7 (t : Fin (cfgA ch).N) : (cfgA ch).fresh (7 : Fin 8) t.val = frTab0_7 ch t.val :=
  Pipeline.Cfg.fresh_tab (cfgA ch) (7 : Fin 8) (frTab0_7 ch) rfl (frTab0_7_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 3) (t : Fin (cfgA ch).N), P0_0 ch t →
    ((Scalar.cmpi .ne (Scalar.extui (Scalar.cmpi .eq (BitVec.ofNat 32 ((iS ch t) 1).val) 0#32)) 0#32) = 1#1) ∧ (True) := fun ch t => (allFacts ch t).2.2.1

theorem hypsR0_A : ∀ (ch : Fin 3) (t : Fin (cfgA ch).N), P0_0 ch t →
    ((Scalar.cmpi .ne (Scalar.extui (Scalar.cmpi .eq (BitVec.ofNat 32 ((iS ch t) 1).val) 0#32)) 0#32) = 1#1) ∧ (True) := hyps0_A

/-- At a point of path A: the idle table, the write-backs and which buffers hold junk (decided over the
    freshness tables `frTab`/`sfrTab`, restated over `Cfg.fresh`/`sfresh` by their agreement). -/
theorem sched0_A : ∀ (ch : Fin 3) (t : Fin (cfgA ch).N), P0_0 ch t →
    (cfgA ch).idle (6 : Fin 8) ((cfgA ch).grid.coords t) = false ∧ ((cfgA ch).win (6 : Fin 8)).flush t = false ∧ (cfgA ch).fresh (6 : Fin 8) t.val = true ∧ (cfgA ch).idle (7 : Fin 8) ((cfgA ch).grid.coords t) = false ∧ ((cfgA ch).win (7 : Fin 8)).flush t = false ∧ (cfgA ch).fresh (7 : Fin 8) t.val = true := by
  intro ch t; rw [freshF0_6 ch t, freshF0_7 ch t]; exact (fun ch t => (allFacts ch t).2.2.2.1) ch t

/-- At a point of path B, the path's hypotheses hold of the words the body reads there (the pinned tables read,
    a pinned window's word AS the word `pinBlk ch t (r.idx x)`; the checks among them cited from `ChecksAt`). -/
theorem hyps0_B : ∀ (ch : Fin 3) (t : Fin (cfgA ch).N), ¬P0_0 ch t →
    (¬((Scalar.cmpi .ne (Scalar.extui (Scalar.cmpi .eq (BitVec.ofNat 32 ((iS ch t) 1).val) 0#32)) 0#32) = 1#1)) ∧ (True) := fun ch t => (allFacts ch t).2.2.2.2.1

theorem hypsR0_B : ∀ (ch : Fin 3) (t : Fin (cfgA ch).N), ¬P0_0 ch t →
    (¬((Scalar.cmpi .ne (Scalar.extui (Scalar.cmpi .eq (BitVec.ofNat 32 ((iS ch t) 1).val) 0#32)) 0#32) = 1#1)) ∧ (True) := hyps0_B

/-- At a point of path B: the idle table, the write-backs and which buffers hold junk (decided over the
    freshness tables `frTab`/`sfrTab`, restated over `Cfg.fresh`/`sfresh` by their agreement). -/
theorem sched0_B : ∀ (ch : Fin 3) (t : Fin (cfgA ch).N), ¬P0_0 ch t →
    (cfgA ch).idle (6 : Fin 8) ((cfgA ch).grid.coords t) = false ∧ (cfgA ch).fresh (6 : Fin 8) t.val = false ∧ (cfgA ch).idle (7 : Fin 8) ((cfgA ch).grid.coords t) = false ∧ (cfgA ch).fresh (7 : Fin 8) t.val = false := by
  intro ch t; rw [freshF0_6 ch t, freshF0_7 ch t]; exact (fun ch t => (allFacts ch t).2.2.2.2.2) ch t

/-! ## What the outputs and scratches hold after each point -/

/-- ONE STEP of the trajectory: what the outputs' current buffers and the scratches hold after the body at point `t`
    (output 6, output 7), from what they held before (`prev`): the path the decisions select at `t`, its
    run's contents; an output the path leaves idle keeps what it held (junk — `default`, named by nothing — where fresh). -/
def step0 (c : Dev nD) (t : Fin (cfgA ch).N) (prev : (S1x528x1024.Idx → Elt Bits .f32) × (S1x528x128.Idx → Elt Bits .f32)) : (S1x528x1024.Idx → Elt Bits .f32) × (S1x528x128.Idx → Elt Bits .f32) :=
  if q0 : P0_0 ch t then
    (out0_A_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1, out0_A_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1)
  else
    (out0_B_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1, out0_B_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1)

/-- THE TRAJECTORY: after position `n`. -/
def traj0 (c : Dev nD) : (n : ℕ) → n < (cfgA ch).N → (S1x528x1024.Idx → Elt Bits .f32) × (S1x528x128.Idx → Elt Bits .f32)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S1x528x1024.Idx → Elt Bits .f32) × (S1x528x128.Idx → Elt Bits .f32) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1x528x1024.Idx → Elt Bits .f32) × (S1x528x128.Idx → Elt Bits .f32)) (q0 : P0_0 ch t) :
    step0 ch m ρ c t prev = (out0_A_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1, out0_A_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1) := by
  unfold step0; simp only [dif_pos q0]

/-- `step0` at a point of path B. -/
theorem step0_B (c : Dev nD) (t : Fin (cfgA ch).N) (prev : (S1x528x1024.Idx → Elt Bits .f32) × (S1x528x128.Idx → Elt Bits .f32)) (q0 : ¬P0_0 ch t) :
    step0 ch m ρ c t prev = (out0_B_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1, out0_B_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1) := by
  unfold step0; simp only [dif_neg q0]

/-! ## The pipeline's proof data -/

/-- What the tracked buffers held before position `t` of `Fin (N+1)` (the invariant's index). -/
def prev0T (c : Dev nD) (t : Fin ((cfgA ch).N + 1)) : (S1x528x1024.Idx → Elt Bits .f32) × (S1x528x128.Idx → Elt Bits .f32) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop(BI.emp)

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 8) t
    | ⟨1, _⟩ => iblk ch m ρ c (1 : Fin 8) t
    | ⟨2, _⟩ => iblk ch m ρ c (2 : Fin 8) t
    | ⟨3, _⟩ => iblk ch m ρ c (3 : Fin 8) t
    | ⟨4, _⟩ => iblk ch m ρ c (4 : Fin 8) t
    | ⟨5, _⟩ => iblk ch m ρ c (5 : Fin 8) t
    | ⟨6, _⟩ => (traj0 ch m ρ c t.val t.isLt).1
    | ⟨7, _⟩ => (traj0 ch m ρ c t.val t.isLt).2
  Φ t := Phi ch m ρ c t
  q _ := fullShare
  owed _ := 0

theorem after0_0 (c : Dev nD) (t : Fin (cfgA ch).N) : (dats ch m ρ 0 c).after (0 : Fin 8) t = iblk ch m ρ c (0 : Fin 8) t := rfl
theorem after0_1 (c : Dev nD) (t : Fin (cfgA ch).N) : (dats ch m ρ 0 c).after (1 : Fin 8) t = iblk ch m ρ c (1 : Fin 8) t := rfl
theorem after0_2 (c : Dev nD) (t : Fin (cfgA ch).N) : (dats ch m ρ 0 c).after (2 : Fin 8) t = iblk ch m ρ c (2 : Fin 8) t := rfl
theorem after0_3 (c : Dev nD) (t : Fin (cfgA ch).N) : (dats ch m ρ 0 c).after (3 : Fin 8) t = iblk ch m ρ c (3 : Fin 8) t := rfl
theorem after0_4 (c : Dev nD) (t : Fin (cfgA ch).N) : (dats ch m ρ 0 c).after (4 : Fin 8) t = iblk ch m ρ c (4 : Fin 8) t := rfl
theorem after0_5 (c : Dev nD) (t : Fin (cfgA ch).N) : (dats ch m ρ 0 c).after (5 : Fin 8) t = iblk ch m ρ c (5 : Fin 8) t := rfl
theorem after0_6 (c : Dev nD) (t : Fin (cfgA ch).N) : (dats ch m ρ 0 c).after (6 : Fin 8) t = (traj0 ch m ρ c t.val t.isLt).1 := rfl
theorem after0_7 (c : Dev nD) (t : Fin (cfgA ch).N) : (dats ch m ρ 0 c).after (7 : Fin 8) t = (traj0 ch m ρ c t.val t.isLt).2 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 8) t d = iblk ch m ρ c (0 : Fin 8) t :=
  ((dats ch m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 8) t d = iblk ch m ρ c (1 : Fin 8) t :=
  ((dats ch m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 8) t d = iblk ch m ρ c (2 : Fin 8) t :=
  ((dats ch m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 8) t d = iblk ch m ρ c (3 : Fin 8) t :=
  ((dats ch m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 8) t d = iblk ch m ρ c (4 : Fin 8) t :=
  ((dats ch m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 8) t d = iblk ch m ρ c (5 : Fin 8) t :=
  ((dats ch m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 8) ((cfgA ch).grid.coords t) = true → (cfgA ch).fresh (6 : Fin 8) t.val = false →
    (dats ch m ρ 0 c).after (6 : Fin 8) t = (dats ch m ρ 0 c).after (6 : Fin 8) ⟨t.val - 1, by omega⟩ := by
  intro t ht hi hf
  rw [after0_6, after0_6, traj0_eq]
  by_cases q0 : P0_0 ch t
  · obtain ⟨i6, -, -, -, -, -⟩ := sched0_A ch t q0
    rw [i6] at hi; exact absurd hi (by decide)
  · obtain ⟨i6, -, -, -⟩ := sched0_B ch t q0
    rw [i6] at hi; exact absurd hi (by decide)

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 8) t d = if (cfgA ch).fresh (6 : Fin 8) t.val then d else (prev0 ch m ρ c t).1 := by
  rw [(dats ch m ρ 0 c).before_out_traj (6 : Fin 8) rfl (fun _ _ => rfl) (hcarry0_6 ch m ρ c) t.val t rfl d]
  by_cases hf : (cfgA ch).fresh (6 : Fin 8) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-- Output 7's `after` carries through the points that leave it idle. -/
theorem hcarry0_7 (c : Dev nD) : ∀ (t : Fin (cfgA ch).N) (ht : t.val ≠ 0), (cfgA ch).idle (7 : Fin 8) ((cfgA ch).grid.coords t) = true → (cfgA ch).fresh (7 : Fin 8) t.val = false →
    (dats ch m ρ 0 c).after (7 : Fin 8) t = (dats ch m ρ 0 c).after (7 : Fin 8) ⟨t.val - 1, by omega⟩ := by
  intro t ht hi hf
  rw [after0_7, after0_7, traj0_eq]
  by_cases q0 : P0_0 ch t
  · obtain ⟨-, -, -, i7, -, -⟩ := sched0_A ch t q0
    rw [i7] at hi; exact absurd hi (by decide)
  · obtain ⟨-, -, i7, -⟩ := sched0_B ch t q0
    rw [i7] at hi; exact absurd hi (by decide)

/-- Output window 7 holds, when the body runs at `t`: junk if nothing was stored since its last write-back (`Cfg.fresh`),
    else what the point before left (TableIdle.lean `Dat.before_out_traj`). -/
theorem before0_7 (c : Dev nD) (t : Fin (cfgA ch).N) (d) :
    (dats ch m ρ 0 c).before (7 : Fin 8) t d = if (cfgA ch).fresh (7 : Fin 8) t.val then d else (prev0 ch m ρ c t).2 := by
  rw [(dats ch m ρ 0 c).before_out_traj (7 : Fin 8) rfl (fun _ _ => rfl) (hcarry0_7 ch m ρ c) t.val t rfl d]
  by_cases hf : (cfgA ch).fresh (7 : Fin 8) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_7]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_vocab_bwd (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 8) t d))
        ∗ (∃ d, owns (c : Thread nD τ) (ms0_1 ch t) fullShare ((dats ch m ρ 0 c).before (1 : Fin 8) t d))
        ∗ (∃ d, owns (c : Thread nD τ) (ms0_2 ch t) fullShare ((dats ch m ρ 0 c).before (2 : Fin 8) t d))
        ∗ (∃ d, owns (c : Thread nD τ) (ms0_3 ch t) fullShare ((dats ch m ρ 0 c).before (3 : Fin 8) t d))
        ∗ (∃ d, owns (c : Thread nD τ) (ms0_4 ch t) fullShare ((dats ch m ρ 0 c).before (4 : Fin 8) t d))
        ∗ (∃ d, owns (c : Thread nD τ) (ms0_5 ch t) fullShare ((dats ch m ρ 0 c).before (5 : Fin 8) t d))
        ∗ (∃ d, owns (c : Thread nD τ) (ms0_6 ch t) fullShare ((dats ch m ρ 0 c).before (6 : Fin 8) t d))
        ∗ (∃ d, owns (c : Thread nD τ) (ms0_7 ch t) fullShare ((dats ch m ρ 0 c).before (7 : Fin 8) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i6, f6, fr6, i7, f7, fr7⟩ := sched0_A ch t q0
    have F0 := hypsR0_A ch t q0
    have k0_h1 := F0.1; have F1 := F0.2
    clear F0 F1
    rewrite [i6]
    simp only [before0_0, before0_1, before0_2, before0_3, before0_4, before0_5, before0_6, before0_7, after0_0, after0_1, after0_2, after0_3, after0_4, after0_5, after0_6, after0_7, f6, f7]
    simp only [fr6, fr7, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨-⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) k0_h1).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexists _; iexact H6
    isplitl [H7]; · iexists _; iexact H7
    iintro ⟨H0, H1, H2, H3, H4, H5, ⟨%e6, H6⟩, ⟨%e7, H7⟩⟩
    isplitr; · iempintro
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · unfold owns; iexists _; isplitr; swap
      · iexact H6
      · ipureintro; exact View.read_writes_of_cover _ _ _ _ _ (cover0_A_6 c _ _ _ _ _ _ _ _ _ _ _ _ _ _ _ _ _ _ _ _ _ _ _ _ _ _)
    unfold owns; iexists _; isplitr; swap
    · iexact H7
    · ipureintro; exact View.read_writes_of_cover _ _ _ _ _ (cover0_A_7 c _ _ _ _ _ _ _ _ _ _ _ _ _ _ _ _ _ _ _ _ _ _ _ _ _ _)
  · obtain ⟨i6, fr6, i7, fr7⟩ := sched0_B ch t q0
    have F0 := hypsR0_B ch t q0
    have k0_h1 := F0.1; have F1 := F0.2
    clear F0 F1
    rewrite [i6]
    simp only [before0_0, before0_1, before0_2, before0_3, before0_4, before0_5, before0_6, before0_7, after0_0, after0_1, after0_2, after0_3, after0_4, after0_5, after0_6, after0_7]
    simp only [fr6, fr7, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_B ch m ρ c t _ q0]
    unfold Phi; simp only [prev0T_castSucc, prev0T_succ, traj0_eq, step0_B ch m ρ c t _ q0, Fin.val_castSucc, Fin.val_succ]
    iintro ⟨⟨-⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) _ _ k0_h1).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexact H6
    isplitl [H7]; · iexact H7
    iintro ⟨H0, H1, H2, H3, H4, H5, ⟨%e6, H6⟩, ⟨%e7, H7⟩⟩
    isplitr; · iempintro
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · unfold owns; iexists _; isplitr; swap
      · iexact H6
      · ipureintro; exact View.read_writes_of_cover _ _ _ _ _ (cover0_B_6 c _ _ _ _ _ _ _ _ _ _ _ _ _ _ _ _ _ _ _ _ _ _ _ _ _ _ _ _)
    unfold owns; iexists _; isplitr; swap
    · iexact H7
    · ipureintro; exact View.read_writes_of_cover _ _ _ _ _ (cover0_B_7 c _ _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg6) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨-⟩, -⟩
  iempintro

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 8)).trans ((dats ch m ρ 0 c).arrAt_in (0 : Fin 8) rfl _), ((h c).1 (1 : Fin 8)).trans ((dats ch m ρ 0 c).arrAt_in (1 : Fin 8) rfl _), ((h c).1 (2 : Fin 8)).trans ((dats ch m ρ 0 c).arrAt_in (2 : Fin 8) rfl _), ((h c).1 (3 : Fin 8)).trans ((dats ch m ρ 0 c).arrAt_in (3 : Fin 8) rfl _), ((h c).1 (4 : Fin 8)).trans ((dats ch m ρ 0 c).arrAt_in (4 : Fin 8) rfl _), ((h c).1 (5 : Fin 8)).trans ((dats ch m ρ 0 c).arrAt_in (5 : Fin 8) rfl _), ((h c).2 0).trans (hp c).symm⟩) (run_main ch m ρ hp)

/-- THE FRAME under the pinning: from a launch memory whose tables and steering words are member `ch`'s, every weakly fair
    execution terminates, nothing faults, every argument array ends unchanged and every semaphore counter of the machine reads
    zero at every final state — `Cert.quiescent_Bwd`'s post.
    Proof.lean: `theorem Cert.Proof.claim : Cert.Claim := ⟨Cert.Bwd.Gen.facts, <Pre>.Gen.facts, fun m ρ h => (pinned_of_pre m h).elim fun ch hp => Cert.Bwd.Gen.frame ch m ρ hp⟩`. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.Bwd.Gen

end
-- ==== Proof.BwdIdealFrame.Pins.lean ====
/- The backward pass (the ideal kernel): the counts of groups, and what is pinned by them. -/
module

public import proofs.«01_k».proof.Defs
public import proofs.«01_k».proof.Proof.Gen.BwdIdeal
public import proofs.«01_k».proof.Proof.Gen.BwdIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- one declaration at a time, which holds less memory
set_option Elab.async false

noncomputable section

namespace Cert.BwdIdeal.Gen

open Cert.BwdIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The pinned words: the tables and the steering windows' arrays, in terms of the count `ch` -/

/- The count of groups, 0, 1 or 2, for which everything below is stated. -/
variable (ch : Fin 3)

/-- The word that holds the count (`main_arg6`, a scalar). -/
def pinT_0 (ch : Fin 3) : S_.Idx → BitVec 32 := fun x => (BitVec.ofNat 32 ch.val)

set_option backward.proofsInPublic true in
/-- What the grid reads before it starts: that word alone. -/
def pfN : pre0.Contents (Elt Ideal) := fun | ⟨0, _⟩ => pinT_0 ch | ⟨_ + 1, h⟩ => absurd h (by simp)
/-- A window's blocks lie inside its array, entry by entry. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The launch memory holds the count `ch`. The precondition gives such a `ch`. -/
def Pinned (m : (ℓ : Loc nD τ sig) → Buf (Elt Ideal) ℓ) : Prop :=
  (∀ c : Dev nD, m ((c : Thread nD τ).loc main_arg6) = pinT_0 ch)

end Cert.BwdIdeal.Gen

end
-- ==== Proof.BwdIdealFrame.Runs.lean ====
/- The backward pass (the ideal kernel): the body of one point, followed along each of its two paths. -/
module

public import proofs.«01_k».proof.Proof.Gen.BwdIdeal.Skeleton
public import proofs.«01_k».proof.Proof.BwdIdealFrame.Pins

@[expose] public section

set_option maxRecDepth 16384
-- one declaration at a time, which holds less memory
set_option Elab.async false

noncomputable section

namespace Cert.BwdIdeal.Gen

open Cert.BwdIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-! ## The kernel body per control path, on symbolic staging memrefs: a subtype the run finds -/

/-- One staging buffer of output window 6, through which its contents are stated (`View.read_writes_of_cover`). -/
abbrev VO0_6 : View sig .tc .vmem S1x528x1024 .f32 := (Memref.whole cc0_stg6_0 : Memref sig .tc .vmem S1x528x1024 .f32).view
/-- One staging buffer of output window 7, through which its contents are stated (`View.read_writes_of_cover`). -/
abbrev VO0_7 : View sig .tc .vmem S1x528x128 .f32 := (Memref.whole cc0_stg7_0 : Memref sig .tc .vmem S1x528x128 .f32).view

set_option backward.proofsInPublic true in
set_option maxHeartbeats 8000000 in
/-- PATH A (points 3 of 96, in members 1‥2 of 3): what the body leaves — per stored output its pieces (last first), per scratch its
    contents — WITH the proof that, on whole staging memrefs, from the inputs at their blocks, the tables, the outputs
    (6: stored, 7: stored) and the scratches (none), under the path's decisions as
    hypotheses over the words the body reads (`k0_h1`), the body runs to the continuation holding all of it as stated. The
    skeleton (`Gen.*_eq_skeleton`) run by `sl_exec`, loops of literal trip count unrolled by the run, the others by `sl_unroll`. -/
noncomputable def kernelRun0_A (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (k0_h1 : (Scalar.cmpi .ne (Scalar.extui (Scalar.cmpi .eq (BitVec.ofNat 32 (i 1).val) 0#32)) 0#32) = 1#1) :
    Σ' (out0 : List (View.Piece (Elt Ideal) S1x528x1024 .f32)), { out1 : List (View.Piece (Elt Ideal) S1x528x128 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (∃ d, owns (c : Thread nD τ) arg8 fullShare d)
          ∗ (∃ d, owns (c : Thread nD τ) arg9 fullShare d)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (∃ f, arg8.view.loc (c : Thread nD τ) ↦[arg8.view.set]{fullShare} arg8.view.writes (Elt Ideal) f out0)
              ∗ (∃ f, arg9.view.loc (c : Thread nD τ) ↦[arg9.view.set]{fullShare} arg9.view.writes (Elt Ideal) f out1)) -∗ K ⟨⟩))
          ⊢ wp frame (wpE (defs₀ (F := Ideal)) Variants.none c none) Set.univ (cc0_vocab_bwd b i arg0 arg2 harg2 arg3 harg3 arg4 harg4 arg5 harg5 arg6 harg6 arg7 harg7 arg8 harg8 arg9 harg9) K } :=
  ⟨_, _, fun K => by
    unfold owns
    rw [cc0_vocab_bwd_eq_skeleton]; unfold cc0_vocab_bwd_skel
    iintro ⟨H0, H1, H2, H3, H4, H5, ⟨%d6, %f6, -, HO6⟩, ⟨%d7, %f7, -, HO7⟩, Hk⟩
    sl_exec! (disch := first | (guard_target = Scalar.cmpi = _; exact k0_h1))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HO6]; · iexists _; iexact HO6
    iexists _; iexact HO7⟩

/-- Path A's pieces for output 6 tile its block (2 stores of `S1x528x1024`: the kernel evaluates the tiling, Lib/Ring.lean `Piece.tiledL`). -/
theorem cover0_A_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (k0_h1 : (Scalar.cmpi .ne (Scalar.extui (Scalar.cmpi .eq (BitVec.ofNat 32 (i 1).val) 0#32)) 0#32) = 1#1) (y : S1x528x1024.Idx) :
    ∃ pc ∈ (kernelRun0_A c b i arg0 arg2 harg2 arg3 harg3 arg4 harg4 arg5 harg5 arg6 harg6 arg7 harg7 arg8 harg8 arg9 harg9 x0 x1 x2 x3 x4 x5 k0_h1).1, y ∈ pc.1.set :=
  View.cover_of_tiledL (kernelRun0_A c b i arg0 arg2 harg2 arg3 harg3 arg4 harg4 arg5 harg5 arg6 harg6 arg7 harg7 arg8 harg8 arg9 harg9 x0 x1 x2 x3 x4 x5 k0_h1).1 S1x528x1024.size (by sl_kernel_rfl) y

/-- What path A leaves in output 6's staging buffer: its pieces read back over junk. -/
def out0_A_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (k0_h1 : (Scalar.cmpi .ne (Scalar.extui (Scalar.cmpi .eq (BitVec.ofNat 32 (i 1).val) 0#32)) 0#32) = 1#1) : (S1x528x1024.Idx → Elt Ideal .f32) :=
  VO0_6.read (Elt Ideal) (VO0_6.writes (Elt Ideal) VO0_6.junk (kernelRun0_A c b i arg0 arg2 harg2 arg3 harg3 arg4 harg4 arg5 harg5 arg6 harg6 arg7 harg7 arg8 harg8 arg9 harg9 x0 x1 x2 x3 x4 x5 k0_h1).1)

/-- Path A's pieces for output 7 tile its block (2 stores of `S1x528x128`: the kernel evaluates the tiling, Lib/Ring.lean `Piece.tiledL`). -/
theorem cover0_A_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (k0_h1 : (Scalar.cmpi .ne (Scalar.extui (Scalar.cmpi .eq (BitVec.ofNat 32 (i 1).val) 0#32)) 0#32) = 1#1) (y : S1x528x128.Idx) :
    ∃ pc ∈ (kernelRun0_A c b i arg0 arg2 harg2 arg3 harg3 arg4 harg4 arg5 harg5 arg6 harg6 arg7 harg7 arg8 harg8 arg9 harg9 x0 x1 x2 x3 x4 x5 k0_h1).2.1, y ∈ pc.1.set :=
  View.cover_of_tiledL (kernelRun0_A c b i arg0 arg2 harg2 arg3 harg3 arg4 harg4 arg5 harg5 arg6 harg6 arg7 harg7 arg8 harg8 arg9 harg9 x0 x1 x2 x3 x4 x5 k0_h1).2.1 S1x528x128.size (by sl_kernel_rfl) y

/-- What path A leaves in output 7's staging buffer: its pieces read back over junk. -/
def out0_A_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (k0_h1 : (Scalar.cmpi .ne (Scalar.extui (Scalar.cmpi .eq (BitVec.ofNat 32 (i 1).val) 0#32)) 0#32) = 1#1) : (S1x528x128.Idx → Elt Ideal .f32) :=
  VO0_7.read (Elt Ideal) (VO0_7.writes (Elt Ideal) VO0_7.junk (kernelRun0_A c b i arg0 arg2 harg2 arg3 harg3 arg4 harg4 arg5 harg5 arg6 harg6 arg7 harg7 arg8 harg8 arg9 harg9 x0 x1 x2 x3 x4 x5 k0_h1).2.1)

set_option backward.proofsInPublic true in
set_option maxHeartbeats 8000000 in
/-- PATH B (points 93 of 96, in members 1‥2 of 3): what the body leaves — per stored output its pieces (last first), per scratch its
    contents — WITH the proof that, on whole staging memrefs, from the inputs at their blocks, the tables, the outputs
    (6: live, 7: live) and the scratches (none), under the path's decisions as
    hypotheses over the words the body reads (`k0_h1`), the body runs to the continuation holding all of it as stated. The
    skeleton (`Gen.*_eq_skeleton`) run by `sl_exec`, loops of literal trip count unrolled by the run, the others by `sl_unroll`. -/
noncomputable def kernelRun0_B (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (xo6 : (S1x528x1024.Idx → Elt Ideal .f32)) (xo7 : (S1x528x128.Idx → Elt Ideal .f32)) (k0_h1 : ¬((Scalar.cmpi .ne (Scalar.extui (Scalar.cmpi .eq (BitVec.ofNat 32 (i 1).val) 0#32)) 0#32) = 1#1)) :
    Σ' (out0 : List (View.Piece (Elt Ideal) S1x528x1024 .f32)), { out1 : List (View.Piece (Elt Ideal) S1x528x128 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ owns (c : Thread nD τ) arg8 fullShare xo6
          ∗ owns (c : Thread nD τ) arg9 fullShare xo7
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (∃ f, arg8.view.loc (c : Thread nD τ) ↦[arg8.view.set]{fullShare} arg8.view.writes (Elt Ideal) f out0)
              ∗ (∃ f, arg9.view.loc (c : Thread nD τ) ↦[arg9.view.set]{fullShare} arg9.view.writes (Elt Ideal) f out1)) -∗ K ⟨⟩))
          ⊢ wp frame (wpE (defs₀ (F := Ideal)) Variants.none c none) Set.univ (cc0_vocab_bwd b i arg0 arg2 harg2 arg3 harg3 arg4 harg4 arg5 harg5 arg6 harg6 arg7 harg7 arg8 harg8 arg9 harg9) K } :=
  ⟨_, _, fun K => by
    unfold owns
    rw [cc0_vocab_bwd_eq_skeleton]; unfold cc0_vocab_bwd_skel
    iintro ⟨H0, H1, H2, H3, H4, H5, ⟨%f6, %hf6, HO6⟩, ⟨%f7, %hf7, HO7⟩, Hk⟩
    obtain rfl := harg8.eq_unread hf6; obtain rfl := harg9.eq_unread hf7
    sl_exec! (disch := first | (guard_target = ¬(Scalar.cmpi = _); exact k0_h1))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HO6]; · iexists _; iexact HO6
    iexists _; iexact HO7⟩

/-- Path B's pieces for output 6 tile its block (1 store of `S1x528x1024`: the kernel evaluates the tiling, Lib/Ring.lean `Piece.tiledL`). -/
theorem cover0_B_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (xo6 : (S1x528x1024.Idx → Elt Ideal .f32)) (xo7 : (S1x528x128.Idx → Elt Ideal .f32)) (k0_h1 : ¬((Scalar.cmpi .ne (Scalar.extui (Scalar.cmpi .eq (BitVec.ofNat 32 (i 1).val) 0#32)) 0#32) = 1#1)) (y : S1x528x1024.Idx) :
    ∃ pc ∈ (kernelRun0_B c b i arg0 arg2 harg2 arg3 harg3 arg4 harg4 arg5 harg5 arg6 harg6 arg7 harg7 arg8 harg8 arg9 harg9 x0 x1 x2 x3 x4 x5 xo6 xo7 k0_h1).1, y ∈ pc.1.set :=
  View.cover_of_tiledL (kernelRun0_B c b i arg0 arg2 harg2 arg3 harg3 arg4 harg4 arg5 harg5 arg6 harg6 arg7 harg7 arg8 harg8 arg9 harg9 x0 x1 x2 x3 x4 x5 xo6 xo7 k0_h1).1 S1x528x1024.size (by sl_kernel_rfl) y

/-- What path B leaves in output 6's staging buffer: its pieces read back over junk. -/
def out0_B_6 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (xo6 : (S1x528x1024.Idx → Elt Ideal .f32)) (xo7 : (S1x528x128.Idx → Elt Ideal .f32)) (k0_h1 : ¬((Scalar.cmpi .ne (Scalar.extui (Scalar.cmpi .eq (BitVec.ofNat 32 (i 1).val) 0#32)) 0#32) = 1#1)) : (S1x528x1024.Idx → Elt Ideal .f32) :=
  VO0_6.read (Elt Ideal) (VO0_6.writes (Elt Ideal) VO0_6.junk (kernelRun0_B c b i arg0 arg2 harg2 arg3 harg3 arg4 harg4 arg5 harg5 arg6 harg6 arg7 harg7 arg8 harg8 arg9 harg9 x0 x1 x2 x3 x4 x5 xo6 xo7 k0_h1).1)

/-- Path B's pieces for output 7 tile its block (1 store of `S1x528x128`: the kernel evaluates the tiling, Lib/Ring.lean `Piece.tiledL`). -/
theorem cover0_B_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (xo6 : (S1x528x1024.Idx → Elt Ideal .f32)) (xo7 : (S1x528x128.Idx → Elt Ideal .f32)) (k0_h1 : ¬((Scalar.cmpi .ne (Scalar.extui (Scalar.cmpi .eq (BitVec.ofNat 32 (i 1).val) 0#32)) 0#32) = 1#1)) (y : S1x528x128.Idx) :
    ∃ pc ∈ (kernelRun0_B c b i arg0 arg2 harg2 arg3 harg3 arg4 harg4 arg5 harg5 arg6 harg6 arg7 harg7 arg8 harg8 arg9 harg9 x0 x1 x2 x3 x4 x5 xo6 xo7 k0_h1).2.1, y ∈ pc.1.set :=
  View.cover_of_tiledL (kernelRun0_B c b i arg0 arg2 harg2 arg3 harg3 arg4 harg4 arg5 harg5 arg6 harg6 arg7 harg7 arg8 harg8 arg9 harg9 x0 x1 x2 x3 x4 x5 xo6 xo7 k0_h1).2.1 S1x528x128.size (by sl_kernel_rfl) y

/-- What path B leaves in output 7's staging buffer: its pieces read back over junk. -/
def out0_B_7 (c : Dev nD) (b : grid0.Bounds) (i : grid0.Static) (arg0 : BitVec 32) (arg2 : Memref sig .tc .vmem S1x528x1536 .f32) (harg2 : arg2.IsWhole) (arg3 : Memref sig .tc .vmem S1x528x128 .f32) (harg3 : arg3.IsWhole) (arg4 : Memref sig .tc .vmem S1x528x128 .f32) (harg4 : arg4.IsWhole) (arg5 : Memref sig .tc .vmem S1x528x128 .f32) (harg5 : arg5.IsWhole) (arg6 : Memref sig .tc .vmem S1024x1536 .fp8e4m3) (harg6 : arg6.IsWhole) (arg7 : Memref sig .tc .vmem S16x1536 .bf16) (harg7 : arg7.IsWhole) (arg8 : Memref sig .tc .vmem S1x528x1024 .f32) (harg8 : arg8.IsWhole) (arg9 : Memref sig .tc .vmem S1x528x128 .f32) (harg9 : arg9.IsWhole)
     (x0 : (S1x528x1536.Idx → Elt Ideal .f32)) (x1 : (S1x528x128.Idx → Elt Ideal .f32)) (x2 : (S1x528x128.Idx → Elt Ideal .f32)) (x3 : (S1x528x128.Idx → Elt Ideal .f32)) (x4 : (S1024x1536.Idx → Elt Ideal .fp8e4m3)) (x5 : (S16x1536.Idx → Elt Ideal .bf16)) (xo6 : (S1x528x1024.Idx → Elt Ideal .f32)) (xo7 : (S1x528x128.Idx → Elt Ideal .f32)) (k0_h1 : ¬((Scalar.cmpi .ne (Scalar.extui (Scalar.cmpi .eq (BitVec.ofNat 32 (i 1).val) 0#32)) 0#32) = 1#1)) : (S1x528x128.Idx → Elt Ideal .f32) :=
  VO0_7.read (Elt Ideal) (VO0_7.writes (Elt Ideal) VO0_7.junk (kernelRun0_B c b i arg0 arg2 harg2 arg3 harg3 arg4 harg4 arg5 harg5 arg6 harg6 arg7 harg7 arg8 harg8 arg9 harg9 x0 x1 x2 x3 x4 x5 xo6 xo7 k0_h1).2.1)

end Cert.BwdIdeal.Gen

end
-- ==== Proof.BwdIdealFrame.Ok.lean ====
/- The backward pass (the ideal kernel): the side conditions of its windows, for each count of groups. -/
module

public import proofs.«01_k».proof.Proof.BwdIdealFrame.Pins

@[expose] public section

set_option maxRecDepth 16384
-- one declaration at a time, which holds less memory
set_option Elab.async false

noncomputable section

namespace Cert.BwdIdeal.Gen

open Cert.BwdIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem ok_grid : ∀ ch : Fin 3, grid0.Admits (dynb0 (pfN ch)) := by decide +kernel
theorem inside_0 : ∀ (ch : Fin 3) (i : (grid0.at (dynb0 (pfN ch))).Coords), ∀ a, (cc0_transform_0 (dynb0 (pfN ch)) i a + 1) * S1x528x1536.size a ≤ S2x528x49152.size a := by decide +kernel
theorem ok_0 (ch : Fin 3) : (∀ i : (grid0.at (dynb0 (pfN ch))).Coords, ∃ h : (∀ a, (cc0_transform_0 (dynb0 (pfN ch)) i a + 1) * S1x528x1536.size a ≤ S2x528x49152.size a), EltTy.bits .f32 = 32 ∨ (Rect.block (s := S2x528x49152) S1x528x1536.size (cc0_transform_0 (dynb0 (pfN ch)) i) h).WholeWords (EltTy.packing .f32)) := fun i => ⟨inside_0 ch i, .inl rfl⟩
theorem inside_1 : ∀ (ch : Fin 3) (i : (grid0.at (dynb0 (pfN ch))).Coords), ∀ a, (cc0_transform_1 (dynb0 (pfN ch)) i a + 1) * S1x528x128.size a ≤ S2x528x128.size a := by decide +kernel
theorem ok_1 (ch : Fin 3) : (∀ i : (grid0.at (dynb0 (pfN ch))).Coords, ∃ h : (∀ a, (cc0_transform_1 (dynb0 (pfN ch)) i a + 1) * S1x528x128.size a ≤ S2x528x128.size a), EltTy.bits .f32 = 32 ∨ (Rect.block (s := S2x528x128) S1x528x128.size (cc0_transform_1 (dynb0 (pfN ch)) i) h).WholeWords (EltTy.packing .f32)) := fun i => ⟨inside_1 ch i, .inl rfl⟩
theorem inside_2 : ∀ (ch : Fin 3) (i : (grid0.at (dynb0 (pfN ch))).Coords), ∀ a, (cc0_transform_2 (dynb0 (pfN ch)) i a + 1) * S1x528x128.size a ≤ S2x528x128.size a := by decide +kernel
theorem ok_2 (ch : Fin 3) : (∀ i : (grid0.at (dynb0 (pfN ch))).Coords, ∃ h : (∀ a, (cc0_transform_2 (dynb0 (pfN ch)) i a + 1) * S1x528x128.size a ≤ S2x528x128.size a), EltTy.bits .f32 = 32 ∨ (Rect.block (s := S2x528x128) S1x528x128.size (cc0_transform_2 (dynb0 (pfN ch)) i) h).WholeWords (EltTy.packing .f32)) := fun i => ⟨inside_2 ch i, .inl rfl⟩
theorem inside_3 : ∀ (ch : Fin 3) (i : (grid0.at (dynb0 (pfN ch))).Coords), ∀ a, (cc0_transform_3 (dynb0 (pfN ch)) i a + 1) * S1x528x128.size a ≤ S2x528x128.size a := by decide +kernel
theorem ok_3 (ch : Fin 3) : (∀ i : (grid0.at (dynb0 (pfN ch))).Coords, ∃ h : (∀ a, (cc0_transform_3 (dynb0 (pfN ch)) i a + 1) * S1x528x128.size a ≤ S2x528x128.size a), EltTy.bits .f32 = 32 ∨ (Rect.block (s := S2x528x128) S1x528x128.size (cc0_transform_3 (dynb0 (pfN ch)) i) h).WholeWords (EltTy.packing .f32)) := fun i => ⟨inside_3 ch i, .inl rfl⟩
theorem inside_4 : ∀ (ch : Fin 3) (i : (grid0.at (dynb0 (pfN ch))).Coords), ∀ a, (cc0_transform_4 (dynb0 (pfN ch)) i a + 1) * S1024x1536.size a ≤ S1024x49152.size a := by
  intro ch i
  have r_i1 : (i 1).val < 32 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  exact Affine.blk_cons h_c0_i32 (by omega) <| Affine.blk_cons h_arg1 (by omega) <| Affine.blk_nil
theorem ok_4 (ch : Fin 3) : (∀ i : (grid0.at (dynb0 (pfN ch))).Coords, ∃ h : (∀ a, (cc0_transform_4 (dynb0 (pfN ch)) i a + 1) * S1024x1536.size a ≤ S1024x49152.size a), EltTy.bits .fp8e4m3 = 32 ∨ (Rect.block (s := S1024x49152) S1024x1536.size (cc0_transform_4 (dynb0 (pfN ch)) i) h).WholeWords (EltTy.packing .fp8e4m3)) := fun i => ⟨inside_4 ch i, .inr (Affine.block_words_dvd (s := S1024x49152) (p := EltTy.packing .fp8e4m3) (by decide) (by decide))⟩
theorem inside_5 : ∀ (ch : Fin 3) (i : (grid0.at (dynb0 (pfN ch))).Coords), ∀ a, (cc0_transform_5 (dynb0 (pfN ch)) i a + 1) * S16x1536.size a ≤ S16x49152.size a := by
  intro ch i
  have r_i1 : (i 1).val < 32 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  exact Affine.blk_cons h_c0_i32 (by omega) <| Affine.blk_cons h_arg1 (by omega) <| Affine.blk_nil
theorem ok_5 (ch : Fin 3) : (∀ i : (grid0.at (dynb0 (pfN ch))).Coords, ∃ h : (∀ a, (cc0_transform_5 (dynb0 (pfN ch)) i a + 1) * S16x1536.size a ≤ S16x49152.size a), EltTy.bits .bf16 = 32 ∨ (Rect.block (s := S16x49152) S16x1536.size (cc0_transform_5 (dynb0 (pfN ch)) i) h).WholeWords (EltTy.packing .bf16)) := fun i => ⟨inside_5 ch i, .inr (Affine.block_words_dvd (s := S16x49152) (p := EltTy.packing .bf16) (by decide) (by decide))⟩
theorem inside_6 : ∀ (ch : Fin 3) (i : (grid0.at (dynb0 (pfN ch))).Coords), ∀ a, (cc0_transform_6 (dynb0 (pfN ch)) i a + 1) * S1x528x1024.size a ≤ S2x528x1024.size a := by decide +kernel
theorem ok_6 (ch : Fin 3) : (∀ i : (grid0.at (dynb0 (pfN ch))).Coords, ∃ h : (∀ a, (cc0_transform_6 (dynb0 (pfN ch)) i a + 1) * S1x528x1024.size a ≤ S2x528x1024.size a), EltTy.bits .f32 = 32 ∨ (Rect.block (s := S2x528x1024) S1x528x1024.size (cc0_transform_6 (dynb0 (pfN ch)) i) h).WholeWords (EltTy.packing .f32)) := fun i => ⟨inside_6 ch i, .inl rfl⟩
theorem inside_7 : ∀ (ch : Fin 3) (i : (grid0.at (dynb0 (pfN ch))).Coords), ∀ a, (cc0_transform_7 (dynb0 (pfN ch)) i a + 1) * S1x528x128.size a ≤ S2x528x128.size a := by decide +kernel
theorem ok_7 (ch : Fin 3) : (∀ i : (grid0.at (dynb0 (pfN ch))).Coords, ∃ h : (∀ a, (cc0_transform_7 (dynb0 (pfN ch)) i a + 1) * S1x528x128.size a ≤ S2x528x128.size a), EltTy.bits .f32 = 32 ∨ (Rect.block (s := S2x528x128) S1x528x128.size (cc0_transform_7 (dynb0 (pfN ch)) i) h).WholeWords (EltTy.packing .f32)) := fun i => ⟨inside_7 ch i, .inl rfl⟩
/-- The grid runs and every block lies inside its array, whatever the count. -/
theorem ok_pfN (ch : Fin 3) : ok0 (F := Ideal) (pfN ch) := ⟨ok_grid ch, ok_0 ch, ok_1 ch, ok_2 ch, ok_3 ch, ok_4 ch, ok_5 ch, ok_6 ch, ok_7 ch⟩

end Cert.BwdIdeal.Gen

end
-- ==== Proof.BwdIdealFrame.Cfg.lean ====
/- The backward pass (the ideal kernel): the pipeline at each count of groups. -/
module

public import proofs.«01_k».proof.Proof.BwdIdealFrame.Ok

@[expose] public section

set_option maxRecDepth 16384
-- one declaration at a time, which holds less memory
set_option Elab.async false

noncomputable section

namespace Cert.BwdIdeal.Gen

open Cert.BwdIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Fin 3)

/-- The admissible contents, the pipeline at them (`cfgA ch`: member `ch`'s grid, 0‥64 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

/-- The run-time bounds the body label is handed (member `ch`'s tables'). -/
abbrev bB : grid0.Bounds := dynb0 (F := Ideal) (pfN ch)

variable (m : (ℓ : Loc nD τ sig) → Buf (Elt Ideal) ℓ) (ρ : Dev nD → PrngReg)

/-! ## A point's coordinates, words and staging memrefs -/

/-- Point `t`'s coordinates, its static coordinates as the body label hands them, its dynamic axes words. -/
abbrev crd (t : Fin (cfgA ch).N) : (cfgA ch).grid.Coords := (cfgA ch).grid.coords t
abbrev iS (t : Fin (cfgA ch).N) : grid0.Static := Pipeline.Grid.Coords.static grid0 (crd ch t)
abbrev dw0_0 (t : Fin (cfgA ch).N) : BitVec 32 := BitVec.ofNat 32 ((crd ch t) 0).val

/-- Each window's current staging memref at point `t`, spelled as the pipeline passes it, and its wholeness. -/
abbrev ms0_0 (t : Fin (cfgA ch).N) : Memref sig .tc .vmem S1x528x1536 .f32 := spec0_0.stage ((cfgA ch).slots t (0 : Fin 8))
abbrev hs0_0 (t : Fin (cfgA ch).N) : (ms0_0 ch t).IsWhole := hstage0_0 (((cfgA ch).slots t (0 : Fin 8)).cast nbuf0_0)
abbrev ms0_1 (t : Fin (cfgA ch).N) : Memref sig .tc .vmem S1x528x128 .f32 := spec0_1.stage ((cfgA ch).slots t (1 : Fin 8))
abbrev hs0_1 (t : Fin (cfgA ch).N) : (ms0_1 ch t).IsWhole := hstage0_1 (((cfgA ch).slots t (1 : Fin 8)).cast nbuf0_1)
abbrev ms0_2 (t : Fin (cfgA ch).N) : Memref sig .tc .vmem S1x528x128 .f32 := spec0_2.stage ((cfgA ch).slots t (2 : Fin 8))
abbrev hs0_2 (t : Fin (cfgA ch).N) : (ms0_2 ch t).IsWhole := hstage0_2 (((cfgA ch).slots t (2 : Fin 8)).cast nbuf0_2)
abbrev ms0_3 (t : Fin (cfgA ch).N) : Memref sig .tc .vmem S1x528x128 .f32 := spec0_3.stage ((cfgA ch).slots t (3 : Fin 8))
abbrev hs0_3 (t : Fin (cfgA ch).N) : (ms0_3 ch t).IsWhole := hstage0_3 (((cfgA ch).slots t (3 : Fin 8)).cast nbuf0_3)
abbrev ms0_4 (t : Fin (cfgA ch).N) : Memref sig .tc .vmem S1024x1536 .fp8e4m3 := spec0_4.stage ((cfgA ch).slots t (4 : Fin 8))
abbrev hs0_4 (t : Fin (cfgA ch).N) : (ms0_4 ch t).IsWhole := hstage0_4 (((cfgA ch).slots t (4 : Fin 8)).cast nbuf0_4)
abbrev ms0_5 (t : Fin (cfgA ch).N) : Memref sig .tc .vmem S16x1536 .bf16 := spec0_5.stage ((cfgA ch).slots t (5 : Fin 8))
abbrev hs0_5 (t : Fin (cfgA ch).N) : (ms0_5 ch t).IsWhole := hstage0_5 (((cfgA ch).slots t (5 : Fin 8)).cast nbuf0_5)
abbrev ms0_6 (t : Fin (cfgA ch).N) : Memref sig .tc .vmem S1x528x1024 .f32 := spec0_6.stage ((cfgA ch).slots t (6 : Fin 8))
abbrev hs0_6 (t : Fin (cfgA ch).N) : (ms0_6 ch t).IsWhole := hstage0_6 (((cfgA ch).slots t (6 : Fin 8)).cast nbuf0_6)
abbrev ms0_7 (t : Fin (cfgA ch).N) : Memref sig .tc .vmem S1x528x128 .f32 := spec0_7.stage ((cfgA ch).slots t (7 : Fin 8))
abbrev hs0_7 (t : Fin (cfgA ch).N) : (ms0_7 ch t).IsWhole := hstage0_7 (((cfgA ch).slots t (7 : Fin 8)).cast nbuf0_7)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (BitVec.ofNat 32 ((iS ch t) 1).val) 0#32)) 0#32) = 1#1

set_option backward.proofsInPublic true in
/-- Whether output 6 holds junk BEFORE each position `1 ‥ N` of member `ch`'s grid — nothing stored into it since
    its last write-back —: the classifier's table (written back at the point before, or idle there and junk
    before it) as a bitmask, bit `n` for position `n + 1`, which `frTab0_6_step` checks against the pipeline's
    own recursion point by point (a bit test is one kernel step; a list walk or the recursion, hundreds). -/
def frMask0_6 : Fin 3 → ℕ
  | ⟨0, _⟩ => 0x0
  | ⟨1, _⟩ => 0x80000000
  | ⟨2, _⟩ => 0x8000000080000000
  | ⟨_ + 3, h⟩ => absurd h (by omega)
/-- `(cfgA ch).fresh 6` TABULATED (TableIdle.lean `Cfg.fresh_tab`): true before the first point, then the table. -/
def frTab0_6 : ℕ → Bool
  | 0 => true
  | n + 1 => (frMask0_6 ch).testBit n

set_option backward.proofsInPublic true in
/-- Whether output 7 holds junk BEFORE each position `1 ‥ N` of member `ch`'s grid — nothing stored into it since
    its last write-back —: the classifier's table (written back at the point before, or idle there and junk
    before it) as a bitmask, bit `n` for position `n + 1`, which `frTab0_7_step` checks against the pipeline's
    own recursion point by point (a bit test is one kernel step; a list walk or the recursion, hundreds). -/
def frMask0_7 : Fin 3 → ℕ
  | ⟨0, _⟩ => 0x0
  | ⟨1, _⟩ => 0x80000000
  | ⟨2, _⟩ => 0x8000000080000000
  | ⟨_ + 3, h⟩ => absurd h (by omega)
/-- `(cfgA ch).fresh 7` TABULATED (TableIdle.lean `Cfg.fresh_tab`): true before the first point, then the table. -/
def frTab0_7 : ℕ → Bool
  | 0 => true
  | n + 1 => (frMask0_7 ch).testBit n

end Cert.BwdIdeal.Gen

end
-- ==== Proof.BwdIdealFrame.Facts.lean ====
/- The backward pass (the ideal kernel): what has to hold at each point. -/
module

public import proofs.«01_k».proof.Proof.BwdIdealFrame.Cfg

@[expose] public section

set_option maxRecDepth 16384
-- one declaration at a time, which holds less memory
set_option Elab.async false

noncomputable section

namespace Cert.BwdIdeal.Gen

open Cert.BwdIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Fin 3)
variable (m : (ℓ : Loc nD τ sig) → Buf (Elt Ideal) ℓ) (ρ : Dev nD → PrngReg)

/-! ## Every fact about a point as one proposition; the named facts are its parts -/

/-- At point `t`: how the record of which outputs hold nothing yet moves on, and for each path what decides it and what the
    outputs hold. -/
abbrev FactsAt (ch : Fin 3) (t : Fin (cfgA ch).N) : Prop :=
  -- frTab0_6_step, frTab0_7_step, hyps0_A, sched0_A, hyps0_B, sched0_B
  (frTab0_6 ch (t.val + 1) = (((cfgA ch).win (6 : Fin 8)).flush t || ((cfgA ch).idle (6 : Fin 8) ((cfgA ch).grid.coords t) && frTab0_6 ch t.val)))
  ∧ (frTab0_7 ch (t.val + 1) = (((cfgA ch).win (7 : Fin 8)).flush t || ((cfgA ch).idle (7 : Fin 8) ((cfgA ch).grid.coords t) && frTab0_7 ch t.val)))
  ∧ (P0_0 ch t → ((Scalar.cmpi .ne (Scalar.extui (Scalar.cmpi .eq (BitVec.ofNat 32 ((iS ch t) 1).val) 0#32)) 0#32) = 1#1) ∧ (True))
  ∧ (P0_0 ch t → (cfgA ch).idle (6 : Fin 8) ((cfgA ch).grid.coords t) = false ∧ ((cfgA ch).win (6 : Fin 8)).flush t = false ∧ frTab0_6 ch t.val = true ∧ (cfgA ch).idle (7 : Fin 8) ((cfgA ch).grid.coords t) = false ∧ ((cfgA ch).win (7 : Fin 8)).flush t = false ∧ frTab0_7 ch t.val = true)
  ∧ (¬P0_0 ch t → (¬((Scalar.cmpi .ne (Scalar.extui (Scalar.cmpi .eq (BitVec.ofNat 32 ((iS ch t) 1).val) 0#32)) 0#32) = 1#1)) ∧ (True))
  ∧ (¬P0_0 ch t → (cfgA ch).idle (6 : Fin 8) ((cfgA ch).grid.coords t) = false ∧ frTab0_6 ch t.val = false ∧ (cfgA ch).idle (7 : Fin 8) ((cfgA ch).grid.coords t) = false ∧ frTab0_7 ch t.val = false)

set_option synthInstance.maxSize 65536 in
instance FactsAt.dec (ch : Fin 3) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (inferInstance)))))

end Cert.BwdIdeal.Gen

end
-- ==== Proof.BwdIdealFrame.lean ====
/- The backward pass (the ideal kernel): the frame: every run ends, nothing faults, the arguments stay as they were. -/
module

public import proofs.«01_k».proof.Proof.BwdIdealFrame.Runs
public import proofs.«01_k».proof.Proof.BwdIdealFrame.Facts
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- one declaration at a time, which holds less memory
set_option Elab.async false

noncomputable section

namespace Cert.BwdIdeal.Gen

open Cert.BwdIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 3)
variable (m : (ℓ : Loc nD τ sig) → Buf (Elt Ideal) ℓ) (ρ : Dev nD → PrngReg)

/-- The facts at every point, for each count of groups. -/
theorem allFacts : ∀ (ch : Fin 3) (t : Fin (cfgA ch).N), FactsAt ch t := by decide +kernel

/-! ## The named facts — the freshness tables' steps, each path's hypotheses and schedule —: its projections -/

theorem frTab0_6_step : ∀ (ch : Fin 3) (t : Fin (cfgA ch).N),
    frTab0_6 ch (t.val + 1) = (((cfgA ch).win (6 : Fin 8)).flush t || ((cfgA ch).idle (6 : Fin 8) ((cfgA ch).grid.coords t) && frTab0_6 ch t.val)) := fun ch t => (allFacts ch t).1
theorem freshF0_6 (t : Fin (cfgA ch).N) : (cfgA ch).fresh (6 : Fin 8) t.val = frTab0_6 ch t.val :=
  Pipeline.Cfg.fresh_tab (cfgA ch) (6 : Fin 8) (frTab0_6 ch) rfl (frTab0_6_step ch) t.val (Nat.le_of_lt t.isLt)

theorem frTab0_7_step : ∀ (ch : Fin 3) (t : Fin (cfgA ch).N),
    frTab0_7 ch (t.val + 1) = (((cfgA ch).win (7 : Fin 8)).flush t || ((cfgA ch).idle (7 : Fin 8) ((cfgA ch).grid.coords t) && frTab0_7 ch t.val)) := fun ch t => (allFacts ch t).2.1
theorem freshF0_7 (t : Fin (cfgA ch).N) : (cfgA ch).fresh (7 : Fin 8) t.val = frTab0_7 ch t.val :=
  Pipeline.Cfg.fresh_tab (cfgA ch) (7 : Fin 8) (frTab0_7 ch) rfl (frTab0_7_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 3) (t : Fin (cfgA ch).N), P0_0 ch t →
    ((Scalar.cmpi .ne (Scalar.extui (Scalar.cmpi .eq (BitVec.ofNat 32 ((iS ch t) 1).val) 0#32)) 0#32) = 1#1) ∧ (True) := fun ch t => (allFacts ch t).2.2.1

theorem hypsR0_A : ∀ (ch : Fin 3) (t : Fin (cfgA ch).N), P0_0 ch t →
    ((Scalar.cmpi .ne (Scalar.extui (Scalar.cmpi .eq (BitVec.ofNat 32 ((iS ch t) 1).val) 0#32)) 0#32) = 1#1) ∧ (True) := hyps0_A

/-- At a point of path A: the idle table, the write-backs and which buffers hold junk (decided over the
    freshness tables `frTab`/`sfrTab`, restated over `Cfg.fresh`/`sfresh` by their agreement). -/
theorem sched0_A : ∀ (ch : Fin 3) (t : Fin (cfgA ch).N), P0_0 ch t →
    (cfgA ch).idle (6 : Fin 8) ((cfgA ch).grid.coords t) = false ∧ ((cfgA ch).win (6 : Fin 8)).flush t = false ∧ (cfgA ch).fresh (6 : Fin 8) t.val = true ∧ (cfgA ch).idle (7 : Fin 8) ((cfgA ch).grid.coords t) = false ∧ ((cfgA ch).win (7 : Fin 8)).flush t = false ∧ (cfgA ch).fresh (7 : Fin 8) t.val = true := by
  intro ch t; rw [freshF0_6 ch t, freshF0_7 ch t]; exact (fun ch t => (allFacts ch t).2.2.2.1) ch t

/-- At a point of path B, the path's hypotheses hold of the words the body reads there (the pinned tables read,
    a pinned window's word AS the word `pinBlk ch t (r.idx x)`; the checks among them cited from `ChecksAt`). -/
theorem hyps0_B : ∀ (ch : Fin 3) (t : Fin (cfgA ch).N), ¬P0_0 ch t →
    (¬((Scalar.cmpi .ne (Scalar.extui (Scalar.cmpi .eq (BitVec.ofNat 32 ((iS ch t) 1).val) 0#32)) 0#32) = 1#1)) ∧ (True) := fun ch t => (allFacts ch t).2.2.2.2.1

theorem hypsR0_B : ∀ (ch : Fin 3) (t : Fin (cfgA ch).N), ¬P0_0 ch t →
    (¬((Scalar.cmpi .ne (Scalar.extui (Scalar.cmpi .eq (BitVec.ofNat 32 ((iS ch t) 1).val) 0#32)) 0#32) = 1#1)) ∧ (True) := hyps0_B

/-- At a point of path B: the idle table, the write-backs and which buffers hold junk (decided over the
    freshness tables `frTab`/`sfrTab`, restated over `Cfg.fresh`/`sfresh` by their agreement). -/
theorem sched0_B : ∀ (ch : Fin 3) (t : Fin (cfgA ch).N), ¬P0_0 ch t →
    (cfgA ch).idle (6 : Fin 8) ((cfgA ch).grid.coords t) = false ∧ (cfgA ch).fresh (6 : Fin 8) t.val = false ∧ (cfgA ch).idle (7 : Fin 8) ((cfgA ch).grid.coords t) = false ∧ (cfgA ch).fresh (7 : Fin 8) t.val = false := by
  intro ch t; rw [freshF0_6 ch t, freshF0_7 ch t]; exact (fun ch t => (allFacts ch t).2.2.2.2.2) ch t

/-! ## What the outputs and scratches hold after each point -/

/-- ONE STEP of the trajectory: what the outputs' current buffers and the scratches hold after the body at point `t`
    (output 6, output 7), from what they held before (`prev`): the path the decisions select at `t`, its
    run's contents; an output the path leaves idle keeps what it held (junk — `default`, named by nothing — where fresh). -/
def step0 (c : Dev nD) (t : Fin (cfgA ch).N) (prev : (S1x528x1024.Idx → Elt Ideal .f32) × (S1x528x128.Idx → Elt Ideal .f32)) : (S1x528x1024.Idx → Elt Ideal .f32) × (S1x528x128.Idx → Elt Ideal .f32) :=
  if q0 : P0_0 ch t then
    (out0_A_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1, out0_A_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1)
  else
    (out0_B_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1, out0_B_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1)

/-- THE TRAJECTORY: after position `n`. -/
def traj0 (c : Dev nD) : (n : ℕ) → n < (cfgA ch).N → (S1x528x1024.Idx → Elt Ideal .f32) × (S1x528x128.Idx → Elt Ideal .f32)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S1x528x1024.Idx → Elt Ideal .f32) × (S1x528x128.Idx → Elt Ideal .f32) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1x528x1024.Idx → Elt Ideal .f32) × (S1x528x128.Idx → Elt Ideal .f32)) (q0 : P0_0 ch t) :
    step0 ch m ρ c t prev = (out0_A_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1, out0_A_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) (hypsR0_A ch t q0).1) := by
  unfold step0; simp only [dif_pos q0]

/-- `step0` at a point of path B. -/
theorem step0_B (c : Dev nD) (t : Fin (cfgA ch).N) (prev : (S1x528x1024.Idx → Elt Ideal .f32) × (S1x528x128.Idx → Elt Ideal .f32)) (q0 : ¬P0_0 ch t) :
    step0 ch m ρ c t prev = (out0_B_6 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1, out0_B_7 c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) prev.1 prev.2 (hypsR0_B ch t q0).1) := by
  unfold step0; simp only [dif_neg q0]

/-! ## The pipeline's proof data -/

/-- What the tracked buffers held before position `t` of `Fin (N+1)` (the invariant's index). -/
def prev0T (c : Dev nD) (t : Fin ((cfgA ch).N + 1)) : (S1x528x1024.Idx → Elt Ideal .f32) × (S1x528x128.Idx → Elt Ideal .f32) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop(BI.emp)

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 8) t
    | ⟨1, _⟩ => iblk ch m ρ c (1 : Fin 8) t
    | ⟨2, _⟩ => iblk ch m ρ c (2 : Fin 8) t
    | ⟨3, _⟩ => iblk ch m ρ c (3 : Fin 8) t
    | ⟨4, _⟩ => iblk ch m ρ c (4 : Fin 8) t
    | ⟨5, _⟩ => iblk ch m ρ c (5 : Fin 8) t
    | ⟨6, _⟩ => (traj0 ch m ρ c t.val t.isLt).1
    | ⟨7, _⟩ => (traj0 ch m ρ c t.val t.isLt).2
  Φ t := Phi ch m ρ c t
  q _ := fullShare
  owed _ := 0

theorem after0_0 (c : Dev nD) (t : Fin (cfgA ch).N) : (dats ch m ρ 0 c).after (0 : Fin 8) t = iblk ch m ρ c (0 : Fin 8) t := rfl
theorem after0_1 (c : Dev nD) (t : Fin (cfgA ch).N) : (dats ch m ρ 0 c).after (1 : Fin 8) t = iblk ch m ρ c (1 : Fin 8) t := rfl
theorem after0_2 (c : Dev nD) (t : Fin (cfgA ch).N) : (dats ch m ρ 0 c).after (2 : Fin 8) t = iblk ch m ρ c (2 : Fin 8) t := rfl
theorem after0_3 (c : Dev nD) (t : Fin (cfgA ch).N) : (dats ch m ρ 0 c).after (3 : Fin 8) t = iblk ch m ρ c (3 : Fin 8) t := rfl
theorem after0_4 (c : Dev nD) (t : Fin (cfgA ch).N) : (dats ch m ρ 0 c).after (4 : Fin 8) t = iblk ch m ρ c (4 : Fin 8) t := rfl
theorem after0_5 (c : Dev nD) (t : Fin (cfgA ch).N) : (dats ch m ρ 0 c).after (5 : Fin 8) t = iblk ch m ρ c (5 : Fin 8) t := rfl
theorem after0_6 (c : Dev nD) (t : Fin (cfgA ch).N) : (dats ch m ρ 0 c).after (6 : Fin 8) t = (traj0 ch m ρ c t.val t.isLt).1 := rfl
theorem after0_7 (c : Dev nD) (t : Fin (cfgA ch).N) : (dats ch m ρ 0 c).after (7 : Fin 8) t = (traj0 ch m ρ c t.val t.isLt).2 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 8) t d = iblk ch m ρ c (0 : Fin 8) t :=
  ((dats ch m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 8) t d = iblk ch m ρ c (1 : Fin 8) t :=
  ((dats ch m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 8) t d = iblk ch m ρ c (2 : Fin 8) t :=
  ((dats ch m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 8) t d = iblk ch m ρ c (3 : Fin 8) t :=
  ((dats ch m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 8) t d = iblk ch m ρ c (4 : Fin 8) t :=
  ((dats ch m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 8) t d = iblk ch m ρ c (5 : Fin 8) t :=
  ((dats ch m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 8) ((cfgA ch).grid.coords t) = true → (cfgA ch).fresh (6 : Fin 8) t.val = false →
    (dats ch m ρ 0 c).after (6 : Fin 8) t = (dats ch m ρ 0 c).after (6 : Fin 8) ⟨t.val - 1, by omega⟩ := by
  intro t ht hi hf
  rw [after0_6, after0_6, traj0_eq]
  by_cases q0 : P0_0 ch t
  · obtain ⟨i6, -, -, -, -, -⟩ := sched0_A ch t q0
    rw [i6] at hi; exact absurd hi (by decide)
  · obtain ⟨i6, -, -, -⟩ := sched0_B ch t q0
    rw [i6] at hi; exact absurd hi (by decide)

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 8) t d = if (cfgA ch).fresh (6 : Fin 8) t.val then d else (prev0 ch m ρ c t).1 := by
  rw [(dats ch m ρ 0 c).before_out_traj (6 : Fin 8) rfl (fun _ _ => rfl) (hcarry0_6 ch m ρ c) t.val t rfl d]
  by_cases hf : (cfgA ch).fresh (6 : Fin 8) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-- Output 7's `after` carries through the points that leave it idle. -/
theorem hcarry0_7 (c : Dev nD) : ∀ (t : Fin (cfgA ch).N) (ht : t.val ≠ 0), (cfgA ch).idle (7 : Fin 8) ((cfgA ch).grid.coords t) = true → (cfgA ch).fresh (7 : Fin 8) t.val = false →
    (dats ch m ρ 0 c).after (7 : Fin 8) t = (dats ch m ρ 0 c).after (7 : Fin 8) ⟨t.val - 1, by omega⟩ := by
  intro t ht hi hf
  rw [after0_7, after0_7, traj0_eq]
  by_cases q0 : P0_0 ch t
  · obtain ⟨-, -, -, i7, -, -⟩ := sched0_A ch t q0
    rw [i7] at hi; exact absurd hi (by decide)
  · obtain ⟨-, -, i7, -⟩ := sched0_B ch t q0
    rw [i7] at hi; exact absurd hi (by decide)

/-- Output window 7 holds, when the body runs at `t`: junk if nothing was stored since its last write-back (`Cfg.fresh`),
    else what the point before left (TableIdle.lean `Dat.before_out_traj`). -/
theorem before0_7 (c : Dev nD) (t : Fin (cfgA ch).N) (d) :
    (dats ch m ρ 0 c).before (7 : Fin 8) t d = if (cfgA ch).fresh (7 : Fin 8) t.val then d else (prev0 ch m ρ c t).2 := by
  rw [(dats ch m ρ 0 c).before_out_traj (7 : Fin 8) rfl (fun _ _ => rfl) (hcarry0_7 ch m ρ c) t.val t rfl d]
  by_cases hf : (cfgA ch).fresh (7 : Fin 8) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_7]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_vocab_bwd (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 8) t d))
        ∗ (∃ d, owns (c : Thread nD τ) (ms0_1 ch t) fullShare ((dats ch m ρ 0 c).before (1 : Fin 8) t d))
        ∗ (∃ d, owns (c : Thread nD τ) (ms0_2 ch t) fullShare ((dats ch m ρ 0 c).before (2 : Fin 8) t d))
        ∗ (∃ d, owns (c : Thread nD τ) (ms0_3 ch t) fullShare ((dats ch m ρ 0 c).before (3 : Fin 8) t d))
        ∗ (∃ d, owns (c : Thread nD τ) (ms0_4 ch t) fullShare ((dats ch m ρ 0 c).before (4 : Fin 8) t d))
        ∗ (∃ d, owns (c : Thread nD τ) (ms0_5 ch t) fullShare ((dats ch m ρ 0 c).before (5 : Fin 8) t d))
        ∗ (∃ d, owns (c : Thread nD τ) (ms0_6 ch t) fullShare ((dats ch m ρ 0 c).before (6 : Fin 8) t d))
        ∗ (∃ d, owns (c : Thread nD τ) (ms0_7 ch t) fullShare ((dats ch m ρ 0 c).before (7 : Fin 8) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i6, f6, fr6, i7, f7, fr7⟩ := sched0_A ch t q0
    have F0 := hypsR0_A ch t q0
    have k0_h1 := F0.1; have F1 := F0.2
    clear F0 F1
    rewrite [i6]
    simp only [before0_0, before0_1, before0_2, before0_3, before0_4, before0_5, before0_6, before0_7, after0_0, after0_1, after0_2, after0_3, after0_4, after0_5, after0_6, after0_7, f6, f7]
    simp only [fr6, fr7, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨-⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) k0_h1).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexists _; iexact H6
    isplitl [H7]; · iexists _; iexact H7
    iintro ⟨H0, H1, H2, H3, H4, H5, ⟨%e6, H6⟩, ⟨%e7, H7⟩⟩
    isplitr; · iempintro
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · unfold owns; iexists _; isplitr; swap
      · iexact H6
      · ipureintro; exact View.read_writes_of_cover _ _ _ _ _ (cover0_A_6 c _ _ _ _ _ _ _ _ _ _ _ _ _ _ _ _ _ _ _ _ _ _ _ _ _ _)
    unfold owns; iexists _; isplitr; swap
    · iexact H7
    · ipureintro; exact View.read_writes_of_cover _ _ _ _ _ (cover0_A_7 c _ _ _ _ _ _ _ _ _ _ _ _ _ _ _ _ _ _ _ _ _ _ _ _ _ _)
  · obtain ⟨i6, fr6, i7, fr7⟩ := sched0_B ch t q0
    have F0 := hypsR0_B ch t q0
    have k0_h1 := F0.1; have F1 := F0.2
    clear F0 F1
    rewrite [i6]
    simp only [before0_0, before0_1, before0_2, before0_3, before0_4, before0_5, before0_6, before0_7, after0_0, after0_1, after0_2, after0_3, after0_4, after0_5, after0_6, after0_7]
    simp only [fr6, fr7, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_B ch m ρ c t _ q0]
    unfold Phi; simp only [prev0T_castSucc, prev0T_succ, traj0_eq, step0_B ch m ρ c t _ q0, Fin.val_castSucc, Fin.val_succ]
    iintro ⟨⟨-⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (bB ch) (iS ch t) (dw0_0 ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (iblk ch m ρ c (0 : Fin 8) t) (iblk ch m ρ c (1 : Fin 8) t) (iblk ch m ρ c (2 : Fin 8) t) (iblk ch m ρ c (3 : Fin 8) t) (iblk ch m ρ c (4 : Fin 8) t) (iblk ch m ρ c (5 : Fin 8) t) _ _ k0_h1).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexact H6
    isplitl [H7]; · iexact H7
    iintro ⟨H0, H1, H2, H3, H4, H5, ⟨%e6, H6⟩, ⟨%e7, H7⟩⟩
    isplitr; · iempintro
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · unfold owns; iexists _; isplitr; swap
      · iexact H6
      · ipureintro; exact View.read_writes_of_cover _ _ _ _ _ (cover0_B_6 c _ _ _ _ _ _ _ _ _ _ _ _ _ _ _ _ _ _ _ _ _ _ _ _ _ _ _ _)
    unfold owns; iexists _; isplitr; swap
    · iexact H7
    · ipureintro; exact View.read_writes_of_cover _ _ _ _ _ (cover0_B_7 c _ _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg6) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨-⟩, -⟩
  iempintro

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 8)).trans ((dats ch m ρ 0 c).arrAt_in (0 : Fin 8) rfl _), ((h c).1 (1 : Fin 8)).trans ((dats ch m ρ 0 c).arrAt_in (1 : Fin 8) rfl _), ((h c).1 (2 : Fin 8)).trans ((dats ch m ρ 0 c).arrAt_in (2 : Fin 8) rfl _), ((h c).1 (3 : Fin 8)).trans ((dats ch m ρ 0 c).arrAt_in (3 : Fin 8) rfl _), ((h c).1 (4 : Fin 8)).trans ((dats ch m ρ 0 c).arrAt_in (4 : Fin 8) rfl _), ((h c).1 (5 : Fin 8)).trans ((dats ch m ρ 0 c).arrAt_in (5 : Fin 8) rfl _), ((h c).2 0).trans (hp c).symm⟩) (run_main ch m ρ hp)

/-- THE FRAME under the pinning: from a launch memory whose tables and steering words are member `ch`'s, every weakly fair
    execution terminates, nothing faults, every argument array ends unchanged and every semaphore counter of the machine reads
    zero at every final state — `Cert.quiescent_BwdIdeal`'s post.
    Proof.lean: `theorem Cert.Proof.claim : Cert.Claim := ⟨Cert.BwdIdeal.Gen.facts, <Pre>.Gen.facts, fun m ρ h => (pinned_of_pre m h).elim fun ch hp => Cert.BwdIdeal.Gen.frame ch m ρ hp⟩`. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.BwdIdeal.Gen

end
-- ==== Proof.BwdFrames.lean ====
/-
  The frames of the backward vocabulary pass. Its grid's first axis is a run-time count of groups too, and both preconditions
  say that it is 0, 1 or 2.
-/
module

public import proofs.«01_k».proof.Proof.Frames
public import proofs.«01_k».proof.Proof.BwdFrame
public import proofs.«01_k».proof.Proof.BwdIdealFrame
public import proofs.«01_k».proof.Proof.Gen.BwdRefIdeal.Frame
public import proofs.«01_k».proof.Proof.Gen.Pre_groups_bwd
public import proofs.«01_k».proof.Proof.Gen.Pre_fed_bwd

@[expose] public section

noncomputable section

namespace Cert.Proof

open Idealize.ShloMosaic Idealize.ShloMosaic.TcCoe Idealize.SL.Sem

/-- A scalar word that the two comparisons accept is the word of a number below 3. -/
theorem group_word (v : IVec (⟨0, ![]⟩ : Shape) 32)
    (h : ∀ i, IntOp.andi (IntOp.cmpi .sge (v i) 0#32) (IntOp.cmpi .sle (v i) 2#32) = 1#1) :
    ∃ ch : Fin 3, v = fun _ => BitVec.ofNat 32 ch.val := by
  let i0 : (⟨0, ![]⟩ : Shape).Idx := fun a => a.elim0
  obtain ⟨ch, hch⟩ := group_count (v i0) (h i0)
  refine ⟨ch, funext fun y => ?_⟩
  rw [show y = i0 from funext fun a => a.elim0, hch]

theorem pinned_bwd (m : (ℓ : Loc Bwd.nD Bwd.τ Bwd.sig) → Buf (Elt Bits) ℓ)
    (h : Cert.Pre_Bwd (hPre_groups_bwd := Cert.Pre_groups_bwd.Gen.facts) m) : ∃ ch, Cert.Bwd.Gen.Pinned ch m := by
  obtain ⟨ch, hch⟩ := group_word _ (fun i => congrFun (h 0) i)
  exact ⟨ch, fun c => by rw [Subsingleton.elim c 0]; exact hch⟩

theorem pinned_bwdIdeal (m : (ℓ : Loc BwdIdeal.nD BwdIdeal.τ BwdIdeal.sig) → Buf (Elt Ideal) ℓ)
    (h : Cert.Pre_BwdIdeal (hPre_groups_bwd := Cert.Pre_groups_bwd.Gen.facts) m) : ∃ ch, Cert.BwdIdeal.Gen.Pinned ch m := by
  obtain ⟨ch, hch⟩ := group_word _ (fun i => congrFun (h 0) i)
  exact ⟨ch, fun c => by rw [Subsingleton.elim c 0]; exact hch⟩

theorem pinned_bwdIdeal_fed (m : (ℓ : Loc BwdIdeal.nD BwdIdeal.τ BwdIdeal.sig) → Buf (Elt Ideal) ℓ)
    (h : Cert.Pre_BwdIdeal_fed_bwd (hPre_fed_bwd := Cert.Pre_fed_bwd.Gen.facts) m) : ∃ ch, Cert.BwdIdeal.Gen.Pinned ch m := by
  obtain ⟨ch, hch⟩ := group_word _ (fun i => congrFun (h 0).1 i)
  exact ⟨ch, fun c => by rw [Subsingleton.elim c 0]; exact hch⟩

/-- The kernel runs, faults nowhere and leaves its arguments as they were. -/
theorem frame_bwd : Cert.quiescent_Bwd (hBwd := Cert.Bwd.Gen.facts) (hPre_groups_bwd := Cert.Pre_groups_bwd.Gen.facts) :=
  fun m ρ h => (pinned_bwd m h).elim fun ch hp => Cert.Bwd.Gen.frame ch m ρ hp

/-- So does the kernel over the extended reals. -/
theorem frame_bwdIdeal : Cert.quiescent_BwdIdeal (hBwdIdeal := Cert.BwdIdeal.Gen.facts) (hPre_groups_bwd := Cert.Pre_groups_bwd.Gen.facts) :=
  fun m ρ h => (pinned_bwdIdeal m h).elim fun ch hp => Cert.BwdIdeal.Gen.frame ch m ρ hp

/-- So it does under the precondition of the value claim. -/
theorem frame_bwdIdeal_fed : Cert.quiescent_BwdIdeal_pre_fed_bwd (hBwdIdeal := Cert.BwdIdeal.Gen.facts) (hPre_fed_bwd := Cert.Pre_fed_bwd.Gen.facts) :=
  fun m ρ h => (pinned_bwdIdeal_fed m h).elim fun ch hp => Cert.BwdIdeal.Gen.frame ch m ρ hp

/-- So does the reference over the extended reals. -/
theorem frame_bwdRefIdeal : Cert.quiescent_BwdRefIdeal (hBwdRefIdeal := Cert.BwdRefIdeal.Gen.facts) :=
  fun m ρ _ => Cert.BwdRefIdeal.Gen.frame m ρ

end Cert.Proof

end
-- ==== Proof.BwdPath.lean ====
/- What one point of the backward vocabulary pass leaves behind, as a function of what it found: the block of gradients and the
   row of scales. -/
module

public import proofs.«01_k».proof.Proof.BwdIdealFrame
public import Idealize.ShloMosaic.Lib.Pipeline.Value
public import Idealize.ShloMosaic.Lib.Pipeline.ValueKit.Acc

@[expose] public section

set_option maxRecDepth 16384

noncomputable section

namespace Cert.BwdIdeal.Path

open Cert.BwdIdeal Cert.BwdIdeal.Gen Idealize.ShloMosaic Idealize.ShloMosaic.TcCoe Idealize.SL.Sem

variable (ch : Fin 3) (m : (ℓ : Loc nD τ sig) → Buf (Elt Ideal) ℓ) (ρ : Dev nD → PrngReg)

/-- The gradients and the scales. -/
abbrev St : Type := (S1x528x1024.Idx → Elt Ideal .f32) × (S1x528x128.Idx → Elt Ideal .f32)

section Step
variable (i : grid0.Static) (x0 : Vec Ideal S1x528x1536 .f32) (x1 x2 x3 : Vec Ideal S1x528x128 .f32)
  (x4 : Vec Ideal S1024x1536 .fp8e4m3) (x5 : Vec Ideal S16x1536 .bf16)

/-- The normaliser of each row, and the label's entry. -/
def lse : Vec Ideal S1x528x1 .f32 := View.ld x3 (Rect.unit (s := S1x528x128) ![0, 0, 0] S1x528x1.size inb_S1x528x128_S1x528x1_0_0_0)
def lab : Vec Ideal S1x528x1 .f32 := View.ld x3 (Rect.unit (s := S1x528x128) ![0, 0, 1] S1x528x1.size inb_S1x528x128_S1x528x1_0_0_1)

/-- The inverse of each row's scale, and the scale. -/
def inv : FVec Ideal S528x1 .f32 := k0_pay13 (k0_pay9 i x1) (k0_pay10 i x1 (lse x3) x2) (k0_pay11 x1 (lse x3) (lab x3))
def scale : FVec Ideal S528x1 .f32 := k0_pay14 (k0_pay9 i x1) (k0_pay10 i x1 (lse x3) x2) (k0_pay11 x1 (lse x3) (lab x3))

/-- The quantized gradient of the chunk's logits. -/
def act : FVec Ideal S528x1536 .bf16 :=
  k0_pay17 (k0_pay5 i x1) (k0_pay6 x1) (k0_pay7 (lse x3)) (k0_pay8 x1 (lse x3) (lab x3)) (inv i x1 x2 x3) (scale i x1 x2 x3) x0

/-- What one more chunk makes of the gradients and of the scales. -/
def drNext (s : Vec Ideal S1x528x1024 .f32) : Vec Ideal S1x528x1024 .f32 :=
  k0_pay1 (act i x0 x1 x2 x3) (k0_pay18 s) (k0_pay19 x4 x5)
def gsNext (s : Vec Ideal S1x528x128 .f32) : Vec Ideal S1x528x128 .f32 :=
  k0_pay16 (scale i x1 x2 x3) (k0_pay15 (BitVec.ofNat 32 (i 1).val) (iota .tc S528x128 32 [1] iota_S528x128_d1_w32)) s
end Step

theorem hz2 : (![0, 0] : Fin 2 → Nat) = fun _ => 0 := funext fun a => by fin_cases a <;> rfl
theorem hz3 : (![0, 0, 0] : Fin 3 → Nat) = fun _ => 0 := funext fun a => by fin_cases a <;> rfl

/-- After point `t`'s chunk. -/
abbrev dr (c : Dev nD) (t : Fin (cfgA ch).N) (s : Vec Ideal S1x528x1024 .f32) : Vec Ideal S1x528x1024 .f32 :=
  drNext (iS ch t) (iblk ch m ρ c (0 : Fin 8) t) (iblk ch m ρ c (1 : Fin 8) t) (iblk ch m ρ c (2 : Fin 8) t) (iblk ch m ρ c (3 : Fin 8) t)
    (iblk ch m ρ c (4 : Fin 8) t) (iblk ch m ρ c (5 : Fin 8) t) s
abbrev gs (c : Dev nD) (t : Fin (cfgA ch).N) (s : Vec Ideal S1x528x128 .f32) : Vec Ideal S1x528x128 .f32 :=
  gsNext (iS ch t) (iblk ch m ρ c (1 : Fin 8) t) (iblk ch m ρ c (2 : Fin 8) t) (iblk ch m ρ c (3 : Fin 8) t) s

set_option maxHeartbeats 1000000 in
theorem dr_A (c : Dev nD) (t : Fin (cfgA ch).N) (prev : St) (q0 : P0_0 ch t) :
    (step0 ch m ρ c t prev).1 = dr ch m ρ c t (k0_pay2 (F := Ideal)) := by
  rw [step0_A ch m ρ c t prev q0]
  unfold dr drNext
  dsimp only
  frame_out [View.read_rep]
  all_goals rfl

set_option maxHeartbeats 1000000 in
theorem gs_A (c : Dev nD) (t : Fin (cfgA ch).N) (prev : St) (q0 : P0_0 ch t) :
    (step0 ch m ρ c t prev).2 = gs ch m ρ c t (k0_pay3 (F := Ideal)) := by
  rw [step0_A ch m ρ c t prev q0]
  unfold gs gsNext
  dsimp only
  frame_out [View.read_rep]
  all_goals rfl

set_option maxHeartbeats 1000000 in
theorem dr_B (c : Dev nD) (t : Fin (cfgA ch).N) (prev : St) (q0 : ¬P0_0 ch t) :
    (step0 ch m ρ c t prev).1 = dr ch m ρ c t prev.1 := by
  rw [step0_B ch m ρ c t prev q0]
  unfold dr drNext
  dsimp only
  frame_out [View.read_rep]
  all_goals rfl

set_option maxHeartbeats 1000000 in
theorem gs_B (c : Dev nD) (t : Fin (cfgA ch).N) (prev : St) (q0 : ¬P0_0 ch t) :
    (step0 ch m ρ c t prev).2 = gs ch m ρ c t prev.2 := by
  rw [step0_B ch m ρ c t prev q0]
  unfold gs gsNext
  dsimp only
  frame_out [View.read_rep]
  all_goals rfl

end Cert.BwdIdeal.Path

end
-- ==== Proof.BwdGeom.lean ====
/- Where the backward kernel's blocks sit in its arrays, at every point of the grid. -/
module

public import proofs.«01_k».proof.Proof.BwdPath
public import Idealize.ShloMosaic.Lib.Pipeline.ValueKit.Geometry
public import Idealize.ShloMosaic.Lib.Pointwise
public import proofs.«01_k».proof.Proof.FwdMath

@[expose] public section

set_option maxRecDepth 16384

noncomputable section

namespace Cert.BwdIdeal.Geom

open Cert.BwdIdeal Cert.BwdIdeal.Gen Idealize.ShloMosaic Idealize.ShloMosaic.TcCoe Idealize.SL.Sem
open Idealize.ShloMosaic.Pipeline (Dat Window)
open Cert.FwdMath (col)

variable (ch : Fin 3) (m : (ℓ : Loc nD τ sig) → Buf (Elt Ideal) ℓ) (ρ : Dev nD → PrngReg)

/-- The grid has 32 points for each group. -/
theorem points : ∀ ch : Fin 3, (cfgA ch).N = ch.val * 32 := by decide +kernel

/-- A point's chunk. -/
theorem coords : ∀ (ch : Fin 3) (t : Fin (cfgA ch).N), ((iS ch t) 1).val = t.val % 32
    ∧ (P0_0 ch t ↔ t.val % 32 = 0) := by decide +kernel

theorem index0 : ∀ (ch : Fin 3) (t : Fin (cfgA ch).N), ((cfgA ch).win (0 : Fin 8)).index t = ![t.val / 32, 0, t.val % 32] := by decide +kernel
theorem index1 : ∀ (ch : Fin 3) (t : Fin (cfgA ch).N), ((cfgA ch).win (1 : Fin 8)).index t = ![t.val / 32, 0, 0] := by decide +kernel
theorem index2 : ∀ (ch : Fin 3) (t : Fin (cfgA ch).N), ((cfgA ch).win (2 : Fin 8)).index t = ![t.val / 32, 0, 0] := by decide +kernel
theorem index3 : ∀ (ch : Fin 3) (t : Fin (cfgA ch).N), ((cfgA ch).win (3 : Fin 8)).index t = ![t.val / 32, 0, 0] := by decide +kernel
theorem index4 : ∀ (ch : Fin 3) (t : Fin (cfgA ch).N), ((cfgA ch).win (4 : Fin 8)).index t = ![0, t.val % 32] := by decide +kernel
theorem index5 : ∀ (ch : Fin 3) (t : Fin (cfgA ch).N), ((cfgA ch).win (5 : Fin 8)).index t = ![0, t.val % 32] := by decide +kernel
theorem index6 : ∀ (ch : Fin 3) (t : Fin (cfgA ch).N), ((cfgA ch).win (6 : Fin 8)).index t = ![t.val / 32, 0, 0] := by decide +kernel
theorem index7 : ∀ (ch : Fin 3) (t : Fin (cfgA ch).N), ((cfgA ch).win (7 : Fin 8)).index t = ![t.val / 32, 0, 0] := by decide +kernel
theorem flush6 : ∀ (ch : Fin 3) (t : Fin (cfgA ch).N), ((cfgA ch).win (6 : Fin 8)).flush t = decide (t.val % 32 = 31) := by decide +kernel
theorem flush7 : ∀ (ch : Fin 3) (t : Fin (cfgA ch).N), ((cfgA ch).win (7 : Fin 8)).flush t = decide (t.val % 32 = 31) := by decide +kernel

/-- The group a point works on. -/
def grp (t : Fin (cfgA ch).N) : Fin 2 := ⟨t.val / 32, by have h := t.isLt; have p := points ch; have := ch.isLt; omega⟩
/-- The chunk a point works on. -/
def chunk (t : Fin (cfgA ch).N) : Fin 32 := ⟨t.val % 32, Nat.mod_lt _ (by norm_num)⟩

theorem iblk0_at (c : Dev nD) (t : Fin (cfgA ch).N) (r : Fin 528) (l : Fin 1536) :
    (iblk ch m ρ c (0 : Fin 8) t : Vec Ideal S1x528x1536 .f32) (ix3 0 r l) = m ((c : Thread nD τ).loc main_arg0) (ix3 (grp ch t) r (col (chunk ch t) l)) := by
  show m ((c : Thread nD τ).loc main_arg0) ((((cfgA ch).win (0 : Fin 8)).blk t).view.emb (ix3 0 r l)) = _
  congr 1
  show (((cfgA ch).win (0 : Fin 8)).rect t).emb (ix3 0 r l) = _
  funext a
  apply Fin.ext
  rw [Window.rect_emb_val _ _ _ _ rfl, index0]
  fin_cases a
  · show t.val / 32 * 1 + 0 = t.val / 32; omega
  · show 0 * 528 + r.val = r.val; omega
  · rfl

theorem iblk1_at (c : Dev nD) (t : Fin (cfgA ch).N) (r : Fin 528) (x : Fin 128) :
    (iblk ch m ρ c (1 : Fin 8) t : Vec Ideal S1x528x128 .f32) (ix3 0 r x) = m ((c : Thread nD τ).loc main_arg1) (ix3 (grp ch t) r x) := by
  show m ((c : Thread nD τ).loc main_arg1) ((((cfgA ch).win (1 : Fin 8)).blk t).view.emb (ix3 0 r x)) = _
  congr 1
  show (((cfgA ch).win (1 : Fin 8)).rect t).emb (ix3 0 r x) = _
  funext a
  apply Fin.ext
  rw [Window.rect_emb_val _ _ _ _ rfl, index1]
  fin_cases a
  · show t.val / 32 * 1 + 0 = t.val / 32; omega
  · show 0 * 528 + r.val = r.val; omega
  · show 0 * 128 + x.val = x.val; omega

theorem iblk2_at (c : Dev nD) (t : Fin (cfgA ch).N) (r : Fin 528) (x : Fin 128) :
    (iblk ch m ρ c (2 : Fin 8) t : Vec Ideal S1x528x128 .f32) (ix3 0 r x) = m ((c : Thread nD τ).loc main_arg2) (ix3 (grp ch t) r x) := by
  show m ((c : Thread nD τ).loc main_arg2) ((((cfgA ch).win (2 : Fin 8)).blk t).view.emb (ix3 0 r x)) = _
  congr 1
  show (((cfgA ch).win (2 : Fin 8)).rect t).emb (ix3 0 r x) = _
  funext a
  apply Fin.ext
  rw [Window.rect_emb_val _ _ _ _ rfl, index2]
  fin_cases a
  · show t.val / 32 * 1 + 0 = t.val / 32; omega
  · show 0 * 528 + r.val = r.val; omega
  · show 0 * 128 + x.val = x.val; omega

theorem iblk3_at (c : Dev nD) (t : Fin (cfgA ch).N) (r : Fin 528) (x : Fin 128) :
    (iblk ch m ρ c (3 : Fin 8) t : Vec Ideal S1x528x128 .f32) (ix3 0 r x) = m ((c : Thread nD τ).loc main_arg3) (ix3 (grp ch t) r x) := by
  show m ((c : Thread nD τ).loc main_arg3) ((((cfgA ch).win (3 : Fin 8)).blk t).view.emb (ix3 0 r x)) = _
  congr 1
  show (((cfgA ch).win (3 : Fin 8)).rect t).emb (ix3 0 r x) = _
  funext a
  apply Fin.ext
  rw [Window.rect_emb_val _ _ _ _ rfl, index3]
  fin_cases a
  · show t.val / 32 * 1 + 0 = t.val / 32; omega
  · show 0 * 528 + r.val = r.val; omega
  · show 0 * 128 + x.val = x.val; omega

theorem iblk4_at (c : Dev nD) (t : Fin (cfgA ch).N) (x : Fin 1024) (l : Fin 1536) :
    (iblk ch m ρ c (4 : Fin 8) t : Vec Ideal S1024x1536 .fp8e4m3) (ix2 x l) = m ((c : Thread nD τ).loc main_arg4) (ix2 x (col (chunk ch t) l)) := by
  show m ((c : Thread nD τ).loc main_arg4) ((((cfgA ch).win (4 : Fin 8)).blk t).view.emb (ix2 x l)) = _
  congr 1
  show (((cfgA ch).win (4 : Fin 8)).rect t).emb (ix2 x l) = _
  funext a
  apply Fin.ext
  rw [Window.rect_emb_val _ _ _ _ rfl, index4]
  fin_cases a
  · show 0 * 1024 + x.val = x.val; omega
  · rfl

theorem iblk5_at (c : Dev nD) (t : Fin (cfgA ch).N) (x : Fin 16) (l : Fin 1536) :
    (iblk ch m ρ c (5 : Fin 8) t : Vec Ideal S16x1536 .bf16) (ix2 x l) = m ((c : Thread nD τ).loc main_arg5) (ix2 x (col (chunk ch t) l)) := by
  show m ((c : Thread nD τ).loc main_arg5) ((((cfgA ch).win (5 : Fin 8)).blk t).view.emb (ix2 x l)) = _
  congr 1
  show (((cfgA ch).win (5 : Fin 8)).rect t).emb (ix2 x l) = _
  funext a
  apply Fin.ext
  rw [Window.rect_emb_val _ _ _ _ rfl, index5]
  fin_cases a
  · show 0 * 16 + x.val = x.val; omega
  · rfl

theorem disj6 : ∀ t t' : Fin (cfgA ch).N, ((cfgA ch).win (6 : Fin 8)).flush t = true → ((cfgA ch).win (6 : Fin 8)).flush t' = true → t ≠ t' →
    Disjoint (((cfgA ch).win (6 : Fin 8)).blk t).view.set (((cfgA ch).win (6 : Fin 8)).blk t').view.set :=
  Window.hdisj_of_index_inj _ fun t t' f f' h => by
    rw [index6, index6] at h
    rw [flush6, decide_eq_true_eq] at f f'
    have h0 : t.val / 32 = t'.val / 32 := congrFun h 0
    exact Fin.ext (by omega)
theorem arr6_at (c : Dev nD) (t : Fin (cfgA ch).N) (ht : t.val % 32 = 31) (r : Fin 528) (a : Fin 1024) :
    (dats ch m ρ 0 c).arrAt (6 : Fin 8) (cfgA ch).N (ix3 (grp ch t) r a) = (traj0 ch m ρ c t.val t.isLt).1 (ix3 0 r a) := by
  have e : (((cfgA ch).win (6 : Fin 8)).blk t).view.emb (ix3 0 r a) = ix3 (grp ch t) r a := by
    show (((cfgA ch).win (6 : Fin 8)).rect t).emb (ix3 0 r a) = _
    funext b
    apply Fin.ext
    rw [Window.rect_emb_val _ _ _ _ rfl, index6]
    fin_cases b
    · show t.val / 32 * 1 + 0 = t.val / 32; omega
    · show 0 * 528 + r.val = r.val; omega
    · show 0 * 1024 + a.val = a.val; omega
  have h := (dats ch m ρ 0 c).arrAt_emb_eq_flushed (6 : Fin 8) (disj6 ch) t (by rw [flush6, ht]; rfl) (ix3 0 r a)
  rw [← e]
  exact h

theorem disj7 : ∀ t t' : Fin (cfgA ch).N, ((cfgA ch).win (7 : Fin 8)).flush t = true → ((cfgA ch).win (7 : Fin 8)).flush t' = true → t ≠ t' →
    Disjoint (((cfgA ch).win (7 : Fin 8)).blk t).view.set (((cfgA ch).win (7 : Fin 8)).blk t').view.set :=
  Window.hdisj_of_index_inj _ fun t t' f f' h => by
    rw [index7, index7] at h
    rw [flush7, decide_eq_true_eq] at f f'
    have h0 : t.val / 32 = t'.val / 32 := congrFun h 0
    exact Fin.ext (by omega)
theorem arr7_at (c : Dev nD) (t : Fin (cfgA ch).N) (ht : t.val % 32 = 31) (r : Fin 528) (a : Fin 128) :
    (dats ch m ρ 0 c).arrAt (7 : Fin 8) (cfgA ch).N (ix3 (grp ch t) r a) = (traj0 ch m ρ c t.val t.isLt).2 (ix3 0 r a) := by
  have e : (((cfgA ch).win (7 : Fin 8)).blk t).view.emb (ix3 0 r a) = ix3 (grp ch t) r a := by
    show (((cfgA ch).win (7 : Fin 8)).rect t).emb (ix3 0 r a) = _
    funext b
    apply Fin.ext
    rw [Window.rect_emb_val _ _ _ _ rfl, index7]
    fin_cases b
    · show t.val / 32 * 1 + 0 = t.val / 32; omega
    · show 0 * 528 + r.val = r.val; omega
    · show 0 * 128 + a.val = a.val; omega
  have h := (dats ch m ρ 0 c).arrAt_emb_eq_flushed (7 : Fin 8) (disj7 ch) t (by rw [flush7, ht]; rfl) (ix3 0 r a)
  rw [← e]
  exact h

end Cert.BwdIdeal.Geom

end
-- ==== Proof.BwdExp.lean ====
/- The exponent of a row's scale: the kernel's count of the powers of two that do not exceed a value is the floor of the value's
   logarithm to the base two, and a word with that exponent in its exponent field reads as the power of two. -/
module

public import proofs.«01_k».proof.Proof.FwdMath
public import Idealize.ShloMosaic.PureOps
public import Idealize.ShloMosaic.PureOps.Reduce

@[expose] public section

noncomputable section

namespace Cert.BwdMath

open Idealize.ShloMosaic Finset

/-- The floor of the logarithm to the base two. -/
def lg (x : ℝ) : ℤ := ⌊Real.log x * (Real.log 2)⁻¹⌋

theorem le_lg (x : ℝ) (hx : 0 < x) (z : ℤ) : (2 : ℝ) ^ z ≤ x ↔ z ≤ lg x := by
  have h2 : 0 < Real.log 2 := Real.log_pos (by norm_num)
  unfold lg
  rw [Int.le_floor, ← div_eq_mul_inv, le_div_iff₀ h2, ← Real.log_zpow, Real.log_le_log_iff (by positivity) hx]

/-- The exponent of the scale for a value `x`: one above the floor of its logarithm, and 0 for a value below the normal numbers. -/
def ex (x : ℝ) : ℤ := if x < (2 : ℝ) ^ (-126 : ℤ) then 0 else lg x + 1

theorem fields : ∀ j : Fin 256, ((IntOp.shli ArithUnit.vector (BitVec.ofNat 32 j.val) 23#32).extractLsb' 23 8).toNat = j.val
    ∧ ((IntOp.shli ArithUnit.vector (BitVec.ofNat 32 j.val) 23#32).extractLsb' 0 23).toNat = 0
    ∧ ((IntOp.shli ArithUnit.vector (BitVec.ofNat 32 j.val) 23#32).extractLsb' 31 1 == 1#1) = false := by decide +kernel

theorem ieee_pow (b : BitVec 32) (n : ℕ) (h1 : (b.extractLsb' 23 8).toNat = n) (h2 : (b.extractLsb' 0 23).toNat = 0)
    (h3 : (b.extractLsb' 31 1 == 1#1) = false) : Ideal.ieee 8 23 b = if n = 255 then ⊤ else if n = 0 then 0
      else (((2 : ℝ) ^ ((n : ℤ) - 127) : ℝ) : EReal) := by
  have e : (8388608 : ℝ) * (2 : ℝ) ^ ((n : ℤ) - 127 - 23) = (2 : ℝ) ^ ((n : ℤ) - 127) := by
    have h : (8388608 : ℝ) = (2 : ℝ) ^ (23 : ℤ) := by norm_num
    rw [h, ← zpow_add₀ (by norm_num)]
    congr 1; ring
  rw [← e]
  unfold Ideal.ieee
  simp only [h1, h2, h3]
  norm_num

/-- The word with exponent field `j` and nothing else reads as a power of two. -/
theorem word_at (j : Fin 256) (h0 : j.val ≠ 0) (h1 : j.val ≠ 255) :
    Ideal.ofBits .f32 (IntOp.shli ArithUnit.vector (BitVec.ofNat 32 j.val) 23#32) = (((2 : ℝ) ^ ((j.val : ℤ) - 127) : ℝ) : EReal) := by
  obtain ⟨a, b, c⟩ := fields j
  generalize IntOp.shli ArithUnit.vector (BitVec.ofNat 32 j.val) 23#32 = w at a b c ⊢
  exact (ieee_pow w j.val a b c).trans (by rw [if_neg h1, if_neg h0])
theorem word_top (j : Fin 256) (h1 : j.val = 255) : Ideal.ofBits .f32 (IntOp.shli ArithUnit.vector (BitVec.ofNat 32 j.val) 23#32) = ⊤ := by
  obtain ⟨a, b, c⟩ := fields j
  generalize IntOp.shli ArithUnit.vector (BitVec.ofNat 32 j.val) 23#32 = w at a b c ⊢
  exact (ieee_pow w j.val a b c).trans (by rw [if_pos h1])

/-- Whether the power of two of field `j` is at most `x`. -/
theorem reached_iff (x : ℝ) (hx : x ≤ 1) (j : Fin 256) (h0 : j.val ≠ 0) :
    Ideal.ofBits .f32 (IntOp.shli ArithUnit.vector (BitVec.ofNat 32 j.val) 23#32) ≤ (x : EReal) ↔ (2 : ℝ) ^ ((j.val : ℤ) - 127) ≤ x := by
  by_cases h1 : j.val = 255
  · rw [word_top j h1, top_le_iff]
    constructor
    · intro h; exact absurd h (EReal.coe_ne_top _)
    · intro h
      have : (1 : ℝ) < (2 : ℝ) ^ ((j.val : ℤ) - 127) := one_lt_zpow₀ (by norm_num) (by omega)
      linarith
  · rw [word_at j h0 h1, EReal.coe_le_coe_iff]

/-- The count of the fields from 1 on whose power of two is at most `x`. -/
def field (x : EReal) : BitVec 32 := univ.fold IntOp.addi (0#32) fun j : Fin 256 =>
  Scalar.select (IntOp.andi (IntOp.cmpi CmpIPredicate.sgt (BitVec.ofNat 32 j.val) 0#32)
    (BitVec.ofBool (decide (Ideal.ofBits .f32 (IntOp.shli ArithUnit.vector (BitVec.ofNat 32 j.val) 23#32) ≤ x)))) 1#32 0#32

theorem pos_word : ∀ j : Fin 256, IntOp.cmpi CmpIPredicate.sgt (BitVec.ofNat 32 j.val) 0#32 = BitVec.ofBool (decide (j.val ≠ 0)) := by decide +kernel

theorem fold_card {ι : Type} [DecidableEq ι] (s : Finset ι) (p : ι → Prop) [DecidablePred p] :
    s.fold IntOp.addi (0#32) (fun j => if p j then 1#32 else 0#32) = BitVec.ofNat 32 (s.filter p).card := by
  induction s using Finset.induction_on with
  | empty => rfl
  | insert a s ha ih =>
    rw [fold_insert ha, ih, filter_insert]
    by_cases h : p a
    · rw [if_pos h, if_pos h, card_insert_of_notMem (fun e => ha (mem_filter.1 e).1), Nat.add_comm, BitVec.ofNat_add]; rfl
    · rw [if_neg h, if_neg h]; exact BitVec.zero_add _

theorem field_eq (x : ℝ) (hx : x ≤ 1) : field (x : EReal)
    = BitVec.ofNat 32 (univ.filter fun j : Fin 256 => j.val ≠ 0 ∧ (2 : ℝ) ^ ((j.val : ℤ) - 127) ≤ x).card := by
  classical
  rw [← fold_card]
  refine Finset.fold_congr fun j _ => ?_
  rw [pos_word]
  by_cases h0 : j.val = 0
  · rw [if_neg fun h => h.1 h0]; simp [h0, Scalar.select, IntOp.andi]
  · by_cases h1 : (2 : ℝ) ^ ((j.val : ℤ) - 127) ≤ x
    · rw [if_pos ⟨h0, h1⟩, decide_eq_true h0, decide_eq_true ((reached_iff x hx j h0).2 h1)]; rfl
    · rw [if_neg fun h => h1 h.2, decide_eq_true h0, decide_eq_false fun h => h1 ((reached_iff x hx j h0).1 h)]; rfl

theorem log_bounds (x : ℝ) (hx : x ≤ 1) (h : ¬ x < (2 : ℝ) ^ (-126 : ℤ)) : 0 < x ∧ -126 ≤ lg x ∧ lg x ≤ 0 := by
  have hp : (0 : ℝ) < x := lt_of_lt_of_le (by positivity) (not_lt.1 h)
  refine ⟨hp, ?_, ?_⟩
  · exact (le_lg x hp _).1 (not_lt.1 h)
  · by_contra hc
    have := (le_lg x hp _).2 (show (1 : ℤ) ≤ lg x by omega)
    norm_num at this
    linarith

theorem card_eq (x : ℝ) (hx : x ≤ 1) : ((univ.filter fun j : Fin 256 => j.val ≠ 0 ∧ (2 : ℝ) ^ ((j.val : ℤ) - 127) ≤ x).card : ℤ)
    = if x < (2 : ℝ) ^ (-126 : ℤ) then 0 else lg x + 127 := by
  by_cases h : x < (2 : ℝ) ^ (-126 : ℤ)
  · rw [if_pos h, filter_eq_empty_iff.2, card_empty]; rfl
    rintro j - ⟨h0, h1⟩
    have : (2 : ℝ) ^ (-126 : ℤ) ≤ (2 : ℝ) ^ ((j.val : ℤ) - 127) := zpow_le_zpow_right₀ (by norm_num) (by omega)
    linarith
  · obtain ⟨hp, hl, hu⟩ := log_bounds x hx h
    rw [if_neg h]
    have e : (univ.filter fun j : Fin 256 => j.val ≠ 0 ∧ (2 : ℝ) ^ ((j.val : ℤ) - 127) ≤ x)
        = univ.filter fun j : Fin 256 => 1 ≤ j.val ∧ (j.val : ℤ) ≤ lg x + 127 := by
      refine filter_congr fun j _ => ?_
      have : (2 : ℝ) ^ ((j.val : ℤ) - 127) ≤ x ↔ (j.val : ℤ) - 127 ≤ lg x := by
        exact le_lg x hp _
      rw [this]
      constructor <;> rintro ⟨a, b⟩ <;> constructor <;> omega
    rw [e]
    obtain ⟨n, hn⟩ : ∃ n : ℕ, lg x + 127 = n := ⟨(lg x + 127).toNat, by omega⟩
    rw [hn]
    have hn' : n < 256 := by omega
    have e2 : (univ.filter fun j : Fin 256 => 1 ≤ j.val ∧ (j.val : ℤ) ≤ (n : ℤ)) = Finset.Ioc (0 : Fin 256) ⟨n, hn'⟩ := by
      ext j; simp only [mem_filter, mem_univ, true_and, mem_Ioc, Fin.lt_def, Fin.le_def]
      constructor
      · rintro ⟨a, b⟩; exact ⟨a, by exact_mod_cast b⟩
      · rintro ⟨a, b⟩; exact ⟨a, by exact_mod_cast b⟩
    rw [e2, Fin.card_Ioc]; simp

/-- The kernel's exponent of the scale for an amplitude `a` whose scaled value is `x`. -/
def kex (a x : EReal) : BitVec 32 :=
  Scalar.select (IntOp.ori (IntOp.cmpi CmpIPredicate.eq (field x) 0#32) (BitVec.ofBool (decide (a = 0)))) (0#32) (IntOp.subi (field x) 126#32)

theorem ofNat_eq_zero (n : ℕ) (h : n < 256) : IntOp.cmpi CmpIPredicate.eq (BitVec.ofNat 32 n) 0#32 = BitVec.ofBool (decide (n = 0)) := by
  have H : ∀ n : Fin 256, IntOp.cmpi CmpIPredicate.eq (BitVec.ofNat 32 n.val) 0#32 = BitVec.ofBool (decide (n.val = 0)) := by decide +kernel
  exact H ⟨n, h⟩

theorem kex_eq (a : EReal) (x : ℝ) (hx : x ≤ 1) (ha : a = 0 → x = 0) : kex a (x : EReal) = BitVec.ofInt 32 (ex x) := by
  have hc := card_eq x hx
  unfold kex ex
  rw [field_eq x hx]
  generalize (univ.filter fun j : Fin 256 => j.val ≠ 0 ∧ (2 : ℝ) ^ ((j.val : ℤ) - 127) ≤ x).card = n at hc
  by_cases h : x < (2 : ℝ) ^ (-126 : ℤ)
  · rw [if_pos h] at hc ⊢
    obtain rfl : n = 0 := by exact_mod_cast hc
    rw [ofNat_eq_zero 0 (by norm_num)]
    by_cases q : a = 0 <;> simp [q, Scalar.select, IntOp.ori]
  · obtain ⟨hp, hl, hu⟩ := log_bounds x hx h
    rw [if_neg h] at hc ⊢
    have hn : n < 256 := by omega
    have hn0 : n ≠ 0 := by omega
    have q : a ≠ 0 := fun e => hp.ne' (ha e)
    rw [ofNat_eq_zero n hn]
    simp only [hn0, q, decide_false]
    show IntOp.subi (BitVec.ofNat 32 n) 126#32 = _
    have : lg x + 1 = (n : ℤ) - 126 := by omega
    rw [this]
    show BitVec.ofNat 32 n - 126#32 = _
    rw [show ((n : ℤ) - 126) = (n : ℤ) - (126 : ℕ) by norm_num]
    rw [sub_eq_add_neg, BitVec.ofInt_add, BitVec.ofInt_neg, BitVec.ofInt_natCast, BitVec.ofInt_natCast, BitVec.sub_eq_add_neg]

/-- The exponents a value between 0 and 1 has. -/
theorem ex_bounds (x : ℝ) (hx : x ≤ 1) : -125 ≤ ex x ∧ ex x ≤ 1 := by
  unfold ex
  by_cases h : x < (2 : ℝ) ^ (-126 : ℤ)
  · rw [if_pos h]; omega
  · obtain ⟨hp, hl, hu⟩ := log_bounds x hx h
    rw [if_neg h]; omega

/-- A word built from an exponent reads as the power of two. -/
theorem pow_word (e : ℤ) (h0 : -126 ≤ e) (h1 : e ≤ 127) :
    Ideal.ofBits .f32 (IntOp.shli ArithUnit.vector (IntOp.addi (BitVec.ofInt 32 e) 127#32) 23#32) = (((2 : ℝ) ^ e : ℝ) : EReal) := by
  obtain ⟨n, hn⟩ : ∃ n : ℕ, e + 127 = n := ⟨(e + 127).toNat, by omega⟩
  have hw : IntOp.addi (BitVec.ofInt 32 e) 127#32 = BitVec.ofNat 32 n := by
    show BitVec.ofInt 32 e + 127#32 = _
    rw [← BitVec.ofInt_natCast (n := n), ← hn, BitVec.ofInt_add]; rfl
  rw [hw]
  have := word_at ⟨n, by omega⟩ (by show n ≠ 0; omega) (by show n ≠ 255; omega)
  rw [this]
  congr 2
  show (n : ℤ) - 127 = e
  omega
theorem neg_word (e : ℤ) : IntOp.subi (0#32) (BitVec.ofInt 32 e) = BitVec.ofInt 32 (-e) := by
  show 0#32 - BitVec.ofInt 32 e = _
  rw [BitVec.ofInt_neg, BitVec.zero_sub]

/-! ### The reference's exponent -/

/-- The reference's exponent for a value `x`. -/
def rex (x : EReal) : EReal := Scalar.select (BitVec.ofBool (decide (x < Ideal.ofBits .f32 8388608#32))) (0 : EReal)
  (Ideal.liftRound Int.floor (Ideal.log x * Cert.FwdMath.L) + 1)

theorem tiny : Ideal.ofBits .f32 8388608#32 = (((2 : ℝ) ^ (-126 : ℤ) : ℝ) : EReal) := word_at 1 (by norm_num) (by norm_num)

theorem rex_eq (x : ℝ) : rex (x : EReal) = (((ex x : ℤ) : ℝ) : EReal) := by
  unfold rex ex
  rw [tiny]
  by_cases h : x < (2 : ℝ) ^ (-126 : ℤ)
  · rw [if_pos h, decide_eq_true (EReal.coe_lt_coe_iff.2 h)]; simp [Scalar.select]
  · have hp : (0 : ℝ) < x := lt_of_lt_of_le (by positivity) (not_lt.1 h)
    rw [if_neg h, decide_eq_false fun q => h (EReal.coe_lt_coe_iff.1 q)]
    show Ideal.liftRound Int.floor (Ideal.log x * Cert.FwdMath.L) + 1 = _
    rw [Ideal.log_coe, if_neg (not_le.2 hp)]
    unfold Cert.FwdMath.L
    rw [← EReal.coe_mul, Ideal.liftRound_coe]
    show (((lg x : ℤ) : ℝ) : EReal) + 1 = _
    push_cast; rfl

theorem exp2_int (e : ℤ) : Ideal.exp2 (((e : ℤ) : ℝ) : EReal) = (((2 : ℝ) ^ e : ℝ) : EReal) := by
  rw [Ideal.exp2_coe, Real.rpow_eq_pow, Real.rpow_intCast]

end Cert.BwdMath

end
-- ==== Proof.BwdMath.lean ====
/- The arithmetic of one chunk of one row of the backward pass over the extended reals: the amplitude that the kernel finds from
   the largest logit off the label and the logit at the label is the largest absolute gradient, and its scale and the scale's
   inverse are the reference's powers of two. -/
module

public import proofs.«01_k».proof.Proof.BwdExp
public import Idealize.ShloMosaic.Lib.Affine

@[expose] public section

noncomputable section

namespace Cert.BwdMath

open Idealize.ShloMosaic Finset Cert.FwdMath

theorem exp2_mono {x y : EReal} (h : x ≤ y) : Ideal.exp2 x ≤ Ideal.exp2 y := by
  induction y using EReal.rec with
  | top => rw [Ideal.exp2_top]; exact le_top
  | bot => obtain rfl := le_bot_iff.1 h; exact le_rfl
  | coe b =>
    induction x using EReal.rec with
    | top => exact absurd h (by simp)
    | bot => rw [Ideal.exp2_bot]; exact exp2_nonneg _
    | coe a =>
      rw [Ideal.exp2_coe, Ideal.exp2_coe, EReal.coe_le_coe_iff, Real.rpow_eq_pow, Real.rpow_eq_pow]
      exact Real.rpow_le_rpow_of_exponent_le (by norm_num) (EReal.coe_le_coe_iff.1 h)

theorem exp2_le_one {x e : EReal} (h : x ≤ e) : Ideal.exp2 (x - e) ≤ 1 := by
  have h0 : x - e ≤ 0 := by
    induction e using EReal.rec with
    | top => rw [sub_top']; exact bot_le
    | bot => obtain rfl := le_bot_iff.1 h; rw [bot_sub']; exact bot_le
    | coe b =>
      induction x using EReal.rec with
      | top => exact absurd h (by simp)
      | bot => rw [bot_sub']; exact bot_le
      | coe a =>
        rw [← EReal.coe_sub, ← EReal.coe_zero, EReal.coe_le_coe_iff]
        linarith [EReal.coe_le_coe_iff.1 h]
  have h1 : Ideal.exp2 (0 : EReal) = 1 := by
    rw [← EReal.coe_zero, Ideal.exp2_coe, Real.rpow_eq_pow, Real.rpow_zero, EReal.coe_one]
  exact (exp2_mono h0).trans h1.le

/-- A value between 0 and 1 is a real one. -/
theorem unit_real {x : EReal} (h0 : 0 ≤ x) (h1 : x ≤ 1) : ∃ r : ℝ, x = r ∧ 0 ≤ r ∧ r ≤ 1 := by
  induction x using EReal.rec with
  | top => exact absurd h1 (by rw [← EReal.coe_one, top_le_iff]; exact EReal.coe_ne_top _)
  | bot => exact absurd h0 (by simp)
  | coe r => exact ⟨r, rfl, EReal.coe_nonneg.1 h0, by rw [← EReal.coe_one] at h1; exact EReal.coe_le_coe_iff.1 h1⟩

theorem abs_nonneg' (g : EReal) : 0 ≤ max g (-g) := by
  rcases le_total 0 g with h | h
  · exact le_max_of_le_left h
  · exact le_max_of_le_right (by rw [EReal.le_neg, neg_zero]; exact h)
theorem abs_of_nonneg' {g : EReal} (h : 0 ≤ g) : max g (-g) = g :=
  max_eq_left ((EReal.neg_le_neg_iff.2 h).trans (by rw [neg_zero]; exact h))

section Chunk

variable (p : Fin 1536 → Prop) [DecidablePred p] (v : Fin 1536 → EReal) (c e h : EReal)

/-- The gradient at column `l` of the chunk. -/
def gr (l : Fin 1536) : EReal := (if p l then Ideal.exp2 (v l - e) - 1 else Ideal.exp2 (v l - e)) * c
/-- The largest absolute gradient of the chunk. -/
def amp : EReal := univ.sup fun l => max (gr p v c e l) (-gr p v c e l)

variable (hc0 : 0 ≤ c) (hc1 : c ≤ 1) (hv : ∀ l, v l ≤ e) (hh : ∀ l, p l → h = v l)

include hc0 hh in
/-- The kernel's amplitude. -/
theorem amp_eq : max (c * Ideal.exp2 ((univ.sup fun l => if p l then ⊥ else v l) - e))
    (if ∃ l, p l then max (c * (Ideal.exp2 (h - e) - 1)) (-(c * (Ideal.exp2 (h - e) - 1))) else 0) = amp p v c e := by
  have off (l : Fin 1536) (q : ¬ p l) : max (gr p v c e l) (-gr p v c e l) = c * Ideal.exp2 (v l - e) := by
    unfold gr
    rw [if_neg q, abs_of_nonneg' (EReal.mul_nonneg (exp2_nonneg _) hc0), mul_comm]
  have on (l : Fin 1536) (q : p l) : gr p v c e l = c * (Ideal.exp2 (h - e) - 1) := by
    unfold gr
    rw [if_pos q, hh l q, mul_comm]
  have le (l : Fin 1536) : max (gr p v c e l) (-gr p v c e l) ≤ amp p v c e :=
    le_sup (f := fun l => max (gr p v c e l) (-gr p v c e l)) (mem_univ l)
  have nn : 0 ≤ amp p v c e := (abs_nonneg' _).trans (le 0)
  apply le_antisymm
  · refine max_le ?_ ?_
    · obtain ⟨l, -, hl⟩ := exists_mem_eq_sup univ ⟨(0 : Fin 1536), mem_univ _⟩ fun l => if p l then (⊥ : EReal) else v l
      rw [hl]
      by_cases q : p l
      · rw [if_pos q, bot_sub', Ideal.exp2_bot, mul_zero]; exact nn
      · rw [if_neg q, ← off l q]; exact le l
    · by_cases q : ∃ l, p l
      · obtain ⟨l, hl⟩ := q
        rw [if_pos ⟨l, hl⟩, ← on l hl]; exact le l
      · rw [if_neg q]; exact nn
  · refine Finset.sup_le fun l _ => ?_
    by_cases q : p l
    · rw [if_pos ⟨l, q⟩, on l q]; exact le_max_right _ _
    · rw [off l q]
      refine le_max_of_le_left (mul_le_mul_of_nonneg_left (exp2_mono (EReal.sub_le_sub ?_ le_rfl)) hc0)
      have := le_sup (f := fun l => if p l then (⊥ : EReal) else v l) (mem_univ l)
      rwa [if_neg q] at this

include hc0 hc1 hv in
theorem amp_real : ∃ a : ℝ, amp p v c e = a ∧ 0 ≤ a ∧ a ≤ 1 := by
  refine unit_real ((abs_nonneg' (gr p v c e 0)).trans
    (le_sup (f := fun l => max (gr p v c e l) (-gr p v c e l)) (mem_univ 0))) (Finset.sup_le fun l _ => ?_)
  obtain ⟨x, hx, x0, x1⟩ := unit_real (exp2_nonneg (v l - e)) (exp2_le_one (hv l))
  obtain ⟨y, rfl, y0, y1⟩ := unit_real hc0 hc1
  unfold gr
  rw [hx, ← EReal.coe_one]
  by_cases q : p l
  · rw [if_pos q, ← EReal.coe_sub, ← EReal.coe_mul, ← EReal.coe_neg]
    refine max_le (EReal.coe_le_coe_iff.2 ?_) (EReal.coe_le_coe_iff.2 ?_) <;> nlinarith
  · rw [if_neg q, ← EReal.coe_mul, ← EReal.coe_neg]
    refine max_le (EReal.coe_le_coe_iff.2 ?_) (EReal.coe_le_coe_iff.2 ?_) <;> nlinarith

end Chunk

/-- One over the largest quantized gradient, as it is written, is a real number between 0 and 1. -/
theorem unit_const : ∃ q : ℝ, Ideal.ofBits .f32 0x37924925#32 = q ∧ 0 < q ∧ q ≤ 1 := by
  refine ⟨9586981 * (2 : ℝ) ^ (-39 : ℤ), ?_, by positivity, ?_⟩
  · simp [Ideal.ofBits, Ideal.ieee]
  · norm_num

/-- The kernel's scale for an amplitude is the reference's. -/
theorem scale_word (a : ℝ) (a0 : 0 ≤ a) (a1 : a ≤ 1) :
    Ideal.ofBits .f32 (IntOp.shli .vector (IntOp.addi (kex a ((a : EReal) * Ideal.ofBits .f32 0x37924925#32)) 127#32) 23#32)
      = Ideal.exp2 (rex ((a : EReal) * Ideal.ofBits .f32 0x37924925#32))
    ∧ Ideal.ofBits .f32 (IntOp.shli .vector (IntOp.addi (IntOp.subi 0#32 (kex a ((a : EReal) * Ideal.ofBits .f32 0x37924925#32))) 127#32) 23#32)
      = Ideal.exp2 (0 - rex ((a : EReal) * Ideal.ofBits .f32 0x37924925#32)) := by
  obtain ⟨q, hq, q0, q1⟩ := unit_const
  rw [hq, ← EReal.coe_mul]
  have hx : a * q ≤ 1 := by nlinarith
  have hb := ex_bounds (a * q) hx
  rw [kex_eq _ _ hx fun h => by rw [show a = 0 from by exact_mod_cast h, zero_mul], rex_eq, exp2_int, pow_word _ (by omega) (by omega),
    neg_word, pow_word _ (by omega) (by omega)]
  refine ⟨rfl, ?_⟩
  rw [← exp2_int, ← EReal.coe_zero, ← EReal.coe_sub]
  congr 2
  push_cast; ring

/-- A word from 0 to 1535 (signed) is the word of a column of the chunk. -/
theorem in_chunk (t : BitVec 32) : IntOp.andi (IntOp.cmpi .sge t 0#32) (IntOp.cmpi .slt t 1536#32)
    = BitVec.ofBool (decide (∃ l : Fin 1536, BitVec.ofNat 32 l.val = t)) := by
  have e : (∃ l : Fin 1536, BitVec.ofNat 32 l.val = t) ↔ t.toNat < 1536 := by
    constructor
    · rintro ⟨l, rfl⟩; rw [BitVec.toNat_ofNat]; omega
    · intro h; exact ⟨⟨t.toNat, h⟩, by simp⟩
  have key : IntOp.andi (IntOp.cmpi .sge t 0#32) (IntOp.cmpi .slt t 1536#32) = 1#1 ↔ t.toNat < 1536 := by
    rw [IntOp.andi_eq_one]
    simp only [IntOp.cmpi]
    have ofBool_eq_one (p : Bool) : (BitVec.ofBool p = 1#1) ↔ p = true := by cases p <;> decide
    simp only [ofBool_eq_one, BitVec.sle, BitVec.slt, decide_eq_true_eq, BitVec.toInt, BitVec.toNat_ofNat]
    omega
  by_cases h : ∃ l : Fin 1536, BitVec.ofNat 32 l.val = t
  · rw [key.2 (e.1 h)]; simp [h]
  · have n := mt (fun q => e.2 (key.1 q)) h
    have z : ∀ w : BitVec 1, w ≠ 1#1 → w = 0#1 := by decide
    rw [z _ n]; simp [h]

theorem select_ofBool (p : Prop) [Decidable p] (a b : EReal) : Scalar.select (BitVec.ofBool (decide p)) a b = if p then a else b := by
  by_cases h : p <;> simp [h, Scalar.select]

/-- The sum over the columns of the label picks the label's logit, if the label is a column. -/
theorem label_sum (t : BitVec 32) (z : Fin 49152 → EReal) (j : Fin 49152) (h : BitVec.ofNat 32 j.val = t) :
    (∑ i : Fin 49152, if BitVec.ofNat 32 i.val = t then z i else 0) = z j := by
  rw [sum_eq_single j, if_pos h]
  · intro i _ hi
    refine if_neg fun e => hi (Fin.ext ?_)
    have := congrArg BitVec.toNat (e.trans h.symm)
    rw [BitVec.toNat_ofNat, BitVec.toNat_ofNat] at this
    omega
  · intro q; exact absurd (mem_univ j) q

end Cert.BwdMath

end
-- ==== Proof.BwdRows.lean ====
/- The backward kernel's values read at an index: one row of a group at a time. -/
module

public import proofs.«01_k».proof.Proof.BwdPath
public import proofs.«01_k».proof.Proof.BwdExp
public import proofs.«01_k».proof.Proof.FwdRows
public import Idealize.ShloMosaic.Lib.Pointwise

@[expose] public section

noncomputable section

namespace Cert.BwdIdeal.Rows

open Cert.BwdIdeal Cert.BwdIdeal.Gen Cert.BwdIdeal.Path
open Idealize.ShloMosaic Idealize.ShloMosaic.TcCoe Cert.FwdMath Cert.BwdMath Finset

variable (i : grid0.Static) (x0 : Vec Ideal S1x528x1536 .f32) (x1 x2 x3 : Vec Ideal S1x528x128 .f32)
  (x4 : Vec Ideal S1024x1536 .fp8e4m3) (x5 : Vec Ideal S16x1536 .bf16)

theorem lse_at (r : Fin 528) : lse x3 (ix3 0 r 0) = x3 (ix3 0 r 0) := by
  unfold lse; rw [View.ld_unit]
  pointwise
theorem lab_at (r : Fin 528) : lab x3 (ix3 0 r 0) = x3 (ix3 0 r 1) := by
  unfold lab; rw [View.ld_unit]
  pointwise

/-- The label's column within the chunk. -/
def tgt (t : BitVec 32) (k : ℕ) : BitVec 32 := t - BitVec.ofNat 32 k * 1536#32
/-- Whether the label is in the chunk. -/
def hereW (t : BitVec 32) : BitVec 1 := IntOp.andi (IntOp.cmpi .sge t 0#32) (IntOp.cmpi .slt t 1536#32)

theorem tgt_at (r : Fin 528) : k0_pay5 (F := Ideal) i x1 (ix2 r 0)
    = tgt (FloatOps.fptosi (F := Ideal) (φ := .f32) 32 (x1 (ix3 0 r 0))) (i 1).val := by
  pointwise [k0_pay5, k0_pay4]
  rfl
theorem here_at (r : Fin 528) : k0_pay9 (F := Ideal) i x1 (ix2 r 0) = hereW (k0_pay5 (F := Ideal) i x1 (ix2 r 0)) := by
  pointwise [k0_pay9]
  rfl
theorem coef_at (r : Fin 528) : k0_pay6 (F := Ideal) x1 (ix2 r 0) = x1 (ix3 0 r 1) := by
  pointwise [k0_pay6, k0_pay4]
theorem lse7_at (v : Vec Ideal S1x528x1 .f32) (r : Fin 528) : k0_pay7 (F := Ideal) v (ix2 r 0) = v (ix3 0 r 0) := by
  pointwise [k0_pay7]
theorem at_label (v w : Vec Ideal S1x528x1 .f32) (r : Fin 528) : k0_pay8 (F := Ideal) x1 v w (ix2 r 0)
    = x1 (ix3 0 r 1) * (Ideal.exp2 (w (ix3 0 r 0) - v (ix3 0 r 0)) - 1) := by
  pointwise [k0_pay8, k0_pay7, k0_pay6, k0_pay4]
  rfl
theorem off_label (v : Vec Ideal S1x528x1 .f32) (r : Fin 528) : k0_pay10 (F := Ideal) i x1 v x2 (ix2 r 0)
    = x1 (ix3 0 r 1) * Ideal.exp2 ((∑ a : Fin 128, if BitVec.ofNat 32 a.val = BitVec.ofNat 32 (i 1).val then x2 (ix3 0 r a) else 0) - v (ix3 0 r 0)) := by
  pointwise [k0_pay10, k0_pay7, k0_pay6, k0_pay4]
  simp only [select_eq]
  rfl
theorem abs_at (v w : Vec Ideal S1x528x1 .f32) (r : Fin 528) : k0_pay11 (F := Ideal) x1 v w (ix2 r 0)
    = max (k0_pay8 (F := Ideal) x1 v w (ix2 r 0)) (-k0_pay8 (F := Ideal) x1 v w (ix2 r 0)) := by
  pointwise [k0_pay11]
  rfl
theorem kex_at (h : IVec S528x1 1) (a b : FVec Ideal S528x1 .f32) (r : Fin 528) : k0_pay12 h a b (ix2 r 0)
    = kex (max (a (ix2 r 0)) (Scalar.select (h (ix2 r 0)) (b (ix2 r 0)) 0))
        (max (a (ix2 r 0)) (Scalar.select (h (ix2 r 0)) (b (ix2 r 0)) 0) * Ideal.ofBits .f32 0x37924925#32) := by
  pointwise [k0_pay12]
  rfl
theorem inv_at (h : IVec S528x1 1) (a b : FVec Ideal S528x1 .f32) (r : Fin 528) : k0_pay13 h a b (ix2 r 0)
    = Ideal.ofBits .f32 (IntOp.shli .vector (IntOp.addi (IntOp.subi 0#32 (k0_pay12 h a b (ix2 r 0))) 127#32) 23#32) := by
  pointwise [k0_pay13]
theorem scale_at (h : IVec S528x1 1) (a b : FVec Ideal S528x1 .f32) (r : Fin 528) : k0_pay14 h a b (ix2 r 0)
    = Ideal.ofBits .f32 (IntOp.shli .vector (IntOp.addi (k0_pay12 h a b (ix2 r 0)) 127#32) 23#32) := by
  pointwise [k0_pay14]
theorem gs_at (s : FVec Ideal S528x1 .f32) (b : BitVec 32) (v : Vec Ideal S1x528x128 .f32) (r : Fin 528) (a : Fin 128) :
    k0_pay16 s (k0_pay15 b (iota .tc S528x128 32 [1] iota_S528x128_d1_w32)) v (ix3 0 r a)
      = if BitVec.ofNat 32 a.val = b then s (ix2 r 0) else v (ix3 0 r a) := by
  pointwise [k0_pay16, k0_pay15]
  rw [select_eq]

/-- Clipping to what a quantized gradient can hold. -/
def clip (x : EReal) : EReal := min (Ideal.ofBits .f32 0x47600000#32) (max (Ideal.ofBits .f32 0xC7600000#32) x)

theorem act_at (t : IVec S528x1 32) (cf ls lb iv sc : FVec Ideal S528x1 .f32) (r : Fin 528) (l : Fin 1536) :
    k0_pay17 t cf ls lb iv sc x0 (ix2 r l)
      = clip (if BitVec.ofNat 32 l.val = t (ix2 r 0) then lb (ix2 r 0) * iv (ix2 r 0)
          else Ideal.exp2 (x0 (ix3 0 r l) - ls (ix2 r 0)) * (cf (ix2 r 0) * iv (ix2 r 0))) * sc (ix2 r 0) := by
  pointwise [k0_pay17]
  rw [select_eq]
  rfl
theorem dr_at (a : FVec Ideal S528x1536 .bf16) (s : Vec Ideal S1x528x1024 .f32) (r : Fin 528) (x : Fin 1024) :
    k0_pay1 a (k0_pay18 s) (k0_pay19 x4 x5) (ix3 0 r x)
      = s (ix3 0 r x) + ∑ l : Fin 1536, a (ix2 r l) * (x4 (ix2 x l) * x5 (ix2 ⟨x.val / 64, by omega⟩ l)) := by
  pointwise [k0_pay1, k0_pay18, k0_pay19]

end Cert.BwdIdeal.Rows

end
-- ==== Proof.BwdRefRows.lean ====
/- The backward reference's values read at an index: one row of a group at a time. -/
module

public import proofs.«01_k».proof.Proof.Gen.BwdRefIdeal.Skeleton
public import proofs.«01_k».proof.Proof.BwdRows
public import proofs.«01_k».proof.Proof.FwdRefRows

@[expose] public section

noncomputable section

namespace Cert.BwdRefIdeal.Rows

open Idealize.ShloMosaic Idealize.ShloMosaic.TcCoe Cert.FwdMath Cert.BwdMath Finset
open Cert.BwdRefIdeal Cert.BwdRefIdeal.Gen
open Cert.FwdRefIdeal.Rows (grp pos row grp_row pos_row)
open Cert.BwdIdeal.Rows (clip)

variable (u : Vec Ideal S2x528x49152 .f32) (info stat : Vec Ideal S2x528x128 .f32) (w : Vec Ideal S1024x49152 .fp8e4m3) (s : Vec Ideal S16x49152 .bf16)

theorem log2e : (Named.named κ "log2e" 1069066811#32 : Ideal .f32) = L := rfl

/-- The gradient of row `r` of group `g` at column `j`. -/
def grad (g : Fin 2) (r : Fin 528) (j : Fin 49152) : EReal :=
  (if BitVec.ofNat 32 j.val = label info g r then Ideal.exp2 (u (ix3 g r j) - stat (ix3 g r 0)) - 1
    else Ideal.exp2 (u (ix3 g r j) - stat (ix3 g r 0))) * info (ix3 g r 1)

theorem split4 (v : FVec Ideal S1056x49152 .f32) (R : Fin 1056) (k : Fin 32) (l : Fin 1536) :
    shapeCast S1056x32x1536 v shapeCasts_S1056x49152_S1056x32x1536 (ix3 R k l) = v (ix2 R (col k l)) := by
  pointwise
  rfl
theorem grad_at (R : Fin 1056) (k : Fin 32) (l : Fin 1536) :
    k0_pay6 (F := Ideal) info u stat (ix3 R k l) = grad u info stat (grp R) (pos R) (col k l) := by
  unfold k0_pay6
  refine (split4 _ R k l).trans ?_
  pointwise
  rw [select_eq]
  rfl

theorem red_at (v : FVec Ideal S1056x32x1536 .f32) (R : Fin 1056) (k : Fin 32) :
    multiReduction .maximumf [2] S1056x32 v 0xFF800000#32 reduces_S1056x32x1536_S1056x32 (.inl rfl) rfl (ix2 R k)
      = univ.sup fun l : Fin 1536 => v (ix3 R k l) := by
  pointwise
  rw [fold_max]
theorem times_at (v : FVec Ideal S1056x32 .f32) (R : Fin 1056) (k : Fin 32) :
    mulf v (broadcast S1056x32 (Scalar.ofBits .f32 0x37924925#32)) (ix2 R k) = v (ix2 R k) * Ideal.ofBits .f32 0x37924925#32 := by
  pointwise
theorem absf_at (v : FVec Ideal S1056x32x1536 .f32) (R : Fin 1056) (k : Fin 32) (l : Fin 1536) :
    absf v (ix3 R k l) = max (v (ix3 R k l)) (-v (ix3 R k l)) := by
  pointwise
  rfl
theorem absmax_at (v : FVec Ideal S1056x32x1536 .f32) (R : Fin 1056) (k : Fin 32) :
    mulf (multiReduction .maximumf [2] S1056x32 (absf v) 0xFF800000#32 reduces_S1056x32x1536_S1056x32 (.inl rfl) rfl)
        (broadcast S1056x32 (Scalar.ofBits .f32 0x37924925#32)) (ix2 R k)
      = (univ.sup fun l : Fin 1536 => max (v (ix3 R k l)) (-v (ix3 R k l))) * Ideal.ofBits .f32 0x37924925#32 := by
  exact (times_at _ R k).trans (congrArg (fun s : EReal => s * Ideal.ofBits .f32 0x37924925#32)
    ((red_at (absf v) R k).trans (sup_congr rfl fun l _ => absf_at v R k l)))
/-- The amplitude of a chunk of a row, scaled to what a quantized gradient can hold. -/
theorem amp_at (R : Fin 1056) (k : Fin 32) : k0_pay7 (F := Ideal) info u stat (ix2 R k)
    = (univ.sup fun l : Fin 1536 => max (k0_pay6 (F := Ideal) info u stat (ix3 R k l)) (-k0_pay6 (F := Ideal) info u stat (ix3 R k l)))
        * Ideal.ofBits .f32 0x37924925#32 := by
  unfold k0_pay7
  exact absmax_at _ R k
theorem exponent_at (v : FVec Ideal S1056x32 .f32) (R : Fin 1056) (k : Fin 32) :
    select (cmpf .olt v (broadcast S1056x32 (Scalar.ofBits .f32 0x00800000#32))) (broadcast S1056x32 (Scalar.ofBits .f32 0x00000000#32))
      (addf (floor (mulf (log v) (broadcast S1056x32 (Named.named κ "log2e" 0x3FB8AA3B#32)))) (broadcast S1056x32 (Scalar.ofBits .f32 0x3F800000#32))) (ix2 R k)
      = rex (v (ix2 R k)) := by
  pointwise
  unfold rex Scalar.select
  rw [log2e]
  by_cases h : v (ix2 R k) < Ideal.ofBits .f32 8388608#32 <;> simp [h]
theorem rex_at (R : Fin 1056) (k : Fin 32) :
    k0_pay1 (k0_pay8 (F := Ideal) info u stat) (k0_pay9 (F := Ideal) info u stat) (ix2 R k) = rex (k0_pay7 (F := Ideal) info u stat (ix2 R k)) := by
  unfold k0_pay1 k0_pay8 k0_pay9
  exact exponent_at _ R k
theorem gs_at (b : IVec S1056x32 1) (v : FVec Ideal S1056x32 .f32) (g : Fin 2) (r : Fin 528) (a : Fin 128) :
    k0_pay4 b v (ix3 g r a) = if h : a.val < 32 then Ideal.exp2 (k0_pay1 b v (ix2 (row g r) ⟨a.val, h⟩)) else 0 := by
  pointwise [k0_pay4, k0_pay2]
  rfl
theorem dr_at (gr : FVec Ideal S1056x32x1536 .f32) (b : IVec S1056x32 1) (v : FVec Ideal S1056x32 .f32) (g : Fin 2) (r : Fin 528) (x : Fin 1024) :
    k0_pay3 (k0_pay5 w s) gr b v (ix3 g r x) = ∑ k : Fin 32, ∑ l : Fin 1536,
      clip (gr (ix3 (row g r) k l) * Ideal.exp2 (0 - k0_pay1 b v (ix2 (row g r) k))) * Ideal.exp2 (k0_pay1 b v (ix2 (row g r) k))
        * (w (ix2 x (col k l)) * s (ix2 ⟨x.val / 64, by omega⟩ (col k l))) := by
  have e : k0_pay3 (k0_pay5 w s) gr b v (ix3 g r x) = ∑ j : Fin 49152, (fun j : Fin 49152 =>
      clip (gr (ix3 (row g r) ⟨j.val / 1536, by omega⟩ ⟨j.val % 1536, by omega⟩) * Ideal.exp2 (0 - k0_pay1 b v (ix2 (row g r) ⟨j.val / 1536, by omega⟩)))
        * Ideal.exp2 (k0_pay1 b v (ix2 (row g r) ⟨j.val / 1536, by omega⟩))
        * (w (ix2 x j) * s (ix2 ⟨x.val / 64, by omega⟩ j))) j := by
    pointwise [k0_pay3, k0_pay5, k0_pay2]
    rfl
  rw [e, sum_cols]
  refine sum_congr rfl fun k _ => sum_congr rfl fun l _ => ?_
  have e1 : (⟨(col k l).val / 1536, by omega⟩ : Fin 32) = k := Fin.ext (by simp only [col]; omega)
  have e2 : (⟨(col k l).val % 1536, by omega⟩ : Fin 1536) = l := Fin.ext (by simp only [col]; omega)
  simp only [e1, e2]

end Cert.BwdRefIdeal.Rows

end
-- ==== Proof.BwdPre.lean ====
/- What the backward pass's precondition says of one row of a running group: its normaliser bounds its logits, its entry for the
   label is the label's logit, its weight is between 0 and 1, and its entry for each chunk is the largest logit off the label. -/
module

public import proofs.«01_k».proof.Proof.Gen.Pre_fed_bwd
public import proofs.«01_k».proof.Proof.FwdRows
public import Idealize.ShloMosaic.Lib.Pointwise
public import Idealize.ShloMosaic.Lib.Affine

@[expose] public section

noncomputable section

namespace Cert.BwdPre

open Idealize.ShloMosaic Idealize.ShloMosaic.TcCoe Cert.FwdMath Finset
open Cert.Pre_fed_bwd

/-- A group below the count is not a dead one. -/
theorem not_dead (g : Fin 2) (ch : Fin 3) (h : g.val < ch.val) : IntOp.cmpi .sge (BitVec.ofNat 32 g.val) (BitVec.ofNat 32 ch.val) = 0#1 := by
  revert h; revert g ch; decide
theorem of_or (x : BitVec 1) (h : IntOp.ori 0#1 x = 1#1) : x = 1#1 := by revert x; decide
theorem of_bool (p : Prop) [Decidable p] (h : BitVec.ofBool (decide p) = 1#1) : p := by
  by_contra q; rw [decide_eq_false q] at h; exact absurd h (by decide)

section
variable [Cert.Pre_fed_bwd.Facts]
open Cert.Pre_fed_bwd.Facts

variable (u : FVec Ideal S2x528x49152 .f32) (info cmax stat : FVec Ideal S2x528x128 .f32)
  (w : FVec Ideal S1024x49152 .fp8e4m3) (s : FVec Ideal S16x49152 .bf16) (n : IVec S_ 32)

theorem sum_at (v : FVec Ideal S2x528x49152 .f32) (g : Fin 2) (r : Fin 528) :
    Host.reduceAdd v (constant (F := Ideal) S_ .f32 0x00000000#32) reducesTo_S2x528x49152_S2x528_d2 h_S_ (ix2 g r) = ∑ j, v (ix3 g r j) := by
  pointwise
theorem sup_at (v : FVec Ideal S2x528x49152 .f32) (g : Fin 2) (r : Fin 528) :
    Host.reduce FloatOps.maximumf v (constant (F := Ideal) S_ .f32 0xFF800000#32) reducesTo_S2x528x49152_S2x528_d2 h_S_ (ix2 g r)
      = univ.sup fun j => v (ix3 g r j) := by
  pointwise
  rw [fold_max]

/-- The word that the precondition has for a row. -/
theorem row_at (v2 : IVec S2x528 1) (v11 : FVec Ideal S2x528x32 .f32) (v14 v15 v17 : FVec Ideal S2x528 .f32) (v18 : IVec S2x528x1 1)
    (g : Fin 2) (r : Fin 528) : (fn_part1 cmax stat n v2 v11 v14 v15 v17 v18).2.2 (ix2 g r)
      = IntOp.ori (v2 (ix2 g r)) (IntOp.andi (IntOp.andi (IntOp.andi (BitVec.ofBool (decide (stat (ix3 g r 1) = v14 (ix2 g r))))
          (BitVec.ofBool (decide (v15 (ix2 g r) ≤ stat (ix3 g r 0))))) (BitVec.ofBool (decide (v17 (ix2 g r) ≥ 0))))
          (BitVec.ofBool (decide (v17 (ix2 g r) ≤ 1)))) := by
  pointwise [fn_part1, fn_part2]
theorem dead_at (g : Fin 2) (r : Fin 528) :
    cmpi .sge (iotaInDim S2x528 32 0) (broadcastInDim S2x528 ![] bcast_S_S2x528 n) (ix2 g r) = IntOp.cmpi .sge (BitVec.ofNat 32 g.val) (n ix0) := by
  pointwise
theorem weight_at (g : Fin 2) (r : Fin 528) :
    shapeCast S2x528 ((extractStridedSlice S2x528x1 ![0, 0, 1] · slices_S2x528x128_S2x528x1_0_0_1) info) shapeCasts_S2x528x1_S2x528 (ix2 g r) = info (ix3 g r 1) := by
  pointwise
theorem pick_at (g : Fin 2) (r : Fin 528) (j : Fin 49152) :
    select (cmpi .eq (iotaInDim S2x528x49152 32 2) (broadcastInDim S2x528x49152 ![0, 1, 2] bcast_S2x528x1_S2x528x49152_0_1_2
      (fptosi 32 ((extractStridedSlice S2x528x1 ![0, 0, 0] · slices_S2x528x128_S2x528x1_0_0_0) info)))) u
      (broadcastInDim S2x528x49152 ![] bcast_S_S2x528x49152 (constant (F := Ideal) S_ .f32 0x00000000#32)) (ix3 g r j)
      = if BitVec.ofNat 32 j.val = label info g r then u (ix3 g r j) else 0 := by
  pointwise
  rw [select_eq]
  rfl
theorem chunk_at (g : Fin 2) (r : Fin 528) (k : Fin 32) : (fn (F := Ideal) u info cmax stat w s n).2.1 (ix3 g r k)
    = IntOp.ori (IntOp.cmpi .sge (BitVec.ofNat 32 g.val) (n ix0)) (BitVec.ofBool (decide (cmax (ix3 g r ⟨k.val, by omega⟩)
        = univ.sup fun l : Fin 1536 => if BitVec.ofNat 32 (col k l).val = label info g r then ⊥ else u (ix3 g r (col k l))))) := by
  pointwise [fn, fn_part1, fn_part2]
  simp only [select_eq, fold_max, neg_inf]
  rfl

/-- What a row of a running group is fed. -/
structure Fed (g : Fin 2) (r : Fin 528) : Prop where
  top : ∀ j, u (ix3 g r j) ≤ stat (ix3 g r 0)
  lab : stat (ix3 g r 1) = ∑ j : Fin 49152, if BitVec.ofNat 32 j.val = label info g r then u (ix3 g r j) else 0
  c0 : 0 ≤ info (ix3 g r 1)
  c1 : info (ix3 g r 1) ≤ 1
  cm : ∀ k : Fin 32, cmax (ix3 g r ⟨k.val, by omega⟩)
    = univ.sup fun l : Fin 1536 => if BitVec.ofNat 32 (col k l).val = label info g r then ⊥ else u (ix3 g r (col k l))

theorem fed_of_pre (h2 : (fn (F := Ideal) u info cmax stat w s n).2.1 = fun _ => 1#1) (h3 : (fn (F := Ideal) u info cmax stat w s n).2.2 = fun _ => 1#1)
    (ch : Fin 3) (hn : n = fun _ => BitVec.ofNat 32 ch.val) (g : Fin 2) (hg : g.val < ch.val) (r : Fin 528) : Fed u info cmax stat g r := by
  have a := congrFun h3 (ix2 g r)
  unfold fn at a
  have b := (row_at cmax stat n _ _ _ _ _ _ g r).symm.trans a
  have e : IntOp.cmpi .sge (BitVec.ofNat 32 g.val) (n ix0) = 0#1 := by rw [hn]; exact not_dead g ch hg
  rw [dead_at, e] at b
  have b := of_or _ b
  rw [IntOp.andi_eq_one, IntOp.andi_eq_one, IntOp.andi_eq_one, weight_at] at b
  obtain ⟨⟨⟨b1, b2⟩, b3⟩, b4⟩ := b
  have b1 := of_bool _ b1
  have b2 := of_bool _ b2
  refine ⟨fun j => ?_, ?_, of_bool _ b3, of_bool _ b4, fun k => ?_⟩
  · exact (le_sup (f := fun j => u (ix3 g r j)) (mem_univ j)).trans ((sup_at u g r).symm.le.trans b2)
  · refine b1.trans ((sum_at _ g r).trans (sum_congr rfl fun j _ => ?_))
    exact pick_at u info g r j
  · have q := (chunk_at u info cmax stat w s n g r k).symm.trans (congrFun h2 (ix3 g r k))
    rw [e] at q
    exact of_bool _ (of_or _ q)
end

end Cert.BwdPre

end
-- ==== Proof.BwdCarry.lean ====
/- The backward kernel's carried values after each chunk, row by row: the sum of the quantized gradients times the weights over
   the chunks so far, and the scales of those chunks. -/
module

public import proofs.«01_k».proof.Proof.BwdGeom
public import proofs.«01_k».proof.Proof.BwdMath
public import proofs.«01_k».proof.Proof.BwdRefRows
public import proofs.«01_k».proof.Proof.BwdPre
public import proofs.«01_k».proof.Proof.Gen.BwdRefIdeal.Skeleton

@[expose] public section

set_option maxRecDepth 16384

noncomputable section

namespace Cert.BwdIdeal.Carried

open Cert.BwdIdeal Cert.BwdIdeal.Gen Cert.BwdIdeal.Path Cert.BwdIdeal.Geom Cert.BwdIdeal.Rows
open Idealize.ShloMosaic Idealize.ShloMosaic.TcCoe Idealize.SL.Sem Cert.FwdMath Cert.BwdMath Finset
open Cert.BwdRefIdeal.Rows (grad)
open Cert.BwdPre (Fed)

section Row

variable (u : Vec Ideal Cert.BwdRefIdeal.S2x528x49152 .f32) (info cmax stat : Vec Ideal Cert.BwdRefIdeal.S2x528x128 .f32)
  (w : Vec Ideal Cert.BwdRefIdeal.S1024x49152 .fp8e4m3) (s : Vec Ideal Cert.BwdRefIdeal.S16x49152 .bf16) (g : Fin 2)

/-- The largest absolute gradient of chunk `k` of row `r`. -/
def peak (r : Fin 528) (k : Fin 32) : EReal :=
  univ.sup fun l : Fin 1536 => max (grad u info stat g r (col k l)) (-grad u info stat g r (col k l))
/-- The exponent of its scale. -/
def expo (r : Fin 528) (k : Fin 32) : EReal := rex (peak u info stat g r k * Ideal.ofBits .f32 0x37924925#32)
/-- The quantized gradient at column `l` of chunk `k`. -/
def quant (r : Fin 528) (k : Fin 32) (l : Fin 1536) : EReal :=
  clip (grad u info stat g r (col k l) * Ideal.exp2 (0 - expo u info stat g r k)) * Ideal.exp2 (expo u info stat g r k)
/-- A chunk's part of the gradient of the row's input `x`. -/
def part (r : Fin 528) (x : Fin 1024) (k : Fin 32) : EReal :=
  ∑ l : Fin 1536, quant u info stat g r k l * (w (ix2 x (col k l)) * s (ix2 ⟨x.val / 64, by omega⟩ (col k l)))
def partN (r : Fin 528) (x : Fin 1024) (k : ℕ) : EReal := if h : k < 32 then part u info stat w s g r x ⟨k, h⟩ else 0
def expoN (r : Fin 528) (k : ℕ) : EReal := if h : k < 32 then expo u info stat g r ⟨k, h⟩ else 0

/-- What a row carries after `n` chunks. -/
structure Inv (n : ℕ) (st : St) (r : Fin 528) : Prop where
  dr : ∀ x, st.1 (ix3 0 r x) = ∑ k ∈ range n, partN u info stat w s g r x k
  gs : ∀ a : Fin 128, st.2 (ix3 0 r a) = if a.val < n then Ideal.exp2 (expoN u info stat g r a.val) else 0

theorem inv_init (r : Fin 528) : Inv u info stat w s g 0 (k0_pay2 (F := Ideal), k0_pay3 (F := Ideal)) r where
  dr := fun x => by rw [sum_range_zero]; exact Ideal.ofBits_zero .f32
  gs := fun a => by rw [if_neg (Nat.not_lt_zero _)]; exact Ideal.ofBits_zero .f32

theorem peak_eq (r : Fin 528) (k : Fin 32) : peak u info stat g r k
    = amp (fun l => BitVec.ofNat 32 (col k l).val = label info g r) (fun l => u (ix3 g r (col k l))) (info (ix3 g r 1)) (stat (ix3 g r 0)) := rfl

variable (i : grid0.Static) (k : Fin 32) (hk : (i 1).val = k.val)
  (x0 : Vec Ideal S1x528x1536 .f32) (x1 x2 x3 : Vec Ideal S1x528x128 .f32) (x4 : Vec Ideal S1024x1536 .fp8e4m3) (x5 : Vec Ideal S16x1536 .bf16)
  (h0 : ∀ r l, x0 (ix3 0 r l) = u (ix3 g r (col k l))) (h1 : ∀ r x, x1 (ix3 0 r x) = info (ix3 g r x))
  (h2 : ∀ r x, x2 (ix3 0 r x) = cmax (ix3 g r x)) (h3 : ∀ r x, x3 (ix3 0 r x) = stat (ix3 g r x))
  (h4 : ∀ x l, x4 (ix2 x l) = w (ix2 x (col k l))) (h5 : ∀ x l, x5 (ix2 x l) = s (ix2 x (col k l)))
  (r : Fin 528) (fed : Fed u info cmax stat g r)

include hk h1 in
theorem tgt_eq : k0_pay5 (F := Ideal) i x1 (ix2 r 0) = tgt (label info g r) k.val := by
  rw [tgt_at, h1, hk]; rfl

/-- The label is at column `l` of the chunk exactly when it is at that column of the whole. -/
theorem tgt_iff (t : BitVec 32) (l : Fin 1536) : BitVec.ofNat 32 l.val = tgt t k.val ↔ BitVec.ofNat 32 (col k l).val = t := hit_iff t k l

include h1 h3 in
theorem at_eq : k0_pay8 (F := Ideal) x1 (lse x3) (lab x3) (ix2 r 0)
    = info (ix3 g r 1) * (Ideal.exp2 (stat (ix3 g r 1) - stat (ix3 g r 0)) - 1) := by
  rw [at_label, lse_at, lab_at, h1, h3, h3]

include hk h2 in
theorem lane_eq : (∑ a : Fin 128, if BitVec.ofNat 32 a.val = BitVec.ofNat 32 (i 1).val then x2 (ix3 0 r a) else 0)
    = cmax (ix3 g r ⟨k.val, by omega⟩) := by
  rw [sum_eq_single (⟨k.val, by omega⟩ : Fin 128), if_pos (by rw [hk]), h2]
  · intro a _ ha
    refine if_neg fun e => ha (Fin.ext ?_)
    have := congrArg BitVec.toNat e
    rw [BitVec.toNat_ofNat, BitVec.toNat_ofNat, hk] at this
    show a.val = k.val
    omega
  · intro q; exact absurd (mem_univ _) q

include fed in
theorem hit_logit (l : Fin 1536) (h : BitVec.ofNat 32 (col k l).val = label info g r) : stat (ix3 g r 1) = u (ix3 g r (col k l)) := by
  rw [fed.lab]; exact label_sum _ _ _ h

include hk h1 h2 h3 fed in
/-- The kernel's amplitude is the chunk's largest absolute gradient. -/
theorem amp_block : max (k0_pay10 (F := Ideal) i x1 (lse x3) x2 (ix2 r 0))
    (Scalar.select (k0_pay9 (F := Ideal) i x1 (ix2 r 0)) (k0_pay11 (F := Ideal) x1 (lse x3) (lab x3) (ix2 r 0)) 0) = peak u info stat g r k := by
  refine (congrArg₂ max (off_label i x1 x2 (lse x3) r) (congrArg₂ (fun a b => Scalar.select a b 0) (here_at i x1 r) (abs_at x1 (lse x3) (lab x3) r))).trans ?_
  rw [tgt_eq info g i k hk x1 h1, at_eq info stat g x1 x3 h1 h3, lane_eq cmax g i k hk x2 h2, lse_at, h1, h3, fed.cm k,
    peak_eq]
  unfold hereW
  rw [in_chunk, select_ofBool]
  have a := amp_eq (fun l => BitVec.ofNat 32 (col k l).val = label info g r) (fun l => u (ix3 g r (col k l))) (info (ix3 g r 1)) (stat (ix3 g r 0))
    (stat (ix3 g r 1)) fed.c0 fun l h => hit_logit u info cmax stat g k r fed l h
  by_cases q : ∃ l : Fin 1536, BitVec.ofNat 32 (col k l).val = label info g r
  · rw [if_pos q] at a
    rw [if_pos (q.imp fun l h => (tgt_iff k _ l).2 h)]
    exact a
  · rw [if_neg q] at a
    rw [if_neg fun e => q (e.imp fun l h => (tgt_iff k _ l).1 h)]
    exact a

include fed in
theorem peak_real : ∃ a : ℝ, peak u info stat g r k = a ∧ 0 ≤ a ∧ a ≤ 1 := by
  rw [peak_eq]; exact amp_real _ _ _ _ fed.c0 fed.c1 fun l => fed.top _

include hk h1 h2 h3 fed in
theorem scale_eq : scale i x1 x2 x3 (ix2 r 0) = Ideal.exp2 (expo u info stat g r k) := by
  unfold scale expo
  rw [scale_at, kex_at, amp_block u info cmax stat g i k hk x1 x2 x3 h1 h2 h3 r fed]
  obtain ⟨a, ha, a0, a1⟩ := peak_real u info cmax stat g k r fed
  rw [ha]; exact (scale_word a a0 a1).1

include hk h1 h2 h3 fed in
theorem inv_eq : inv i x1 x2 x3 (ix2 r 0) = Ideal.exp2 (0 - expo u info stat g r k) := by
  unfold Path.inv expo
  rw [inv_at, kex_at, amp_block u info cmax stat g i k hk x1 x2 x3 h1 h2 h3 r fed]
  obtain ⟨a, ha, a0, a1⟩ := peak_real u info cmax stat g k r fed
  rw [ha]; exact (scale_word a a0 a1).2

include hk h0 h1 h2 h3 fed in
theorem act_eq (l : Fin 1536) : act i x0 x1 x2 x3 (ix2 r l) = quant u info stat g r k l := by
  unfold act quant
  rw [act_at, scale_eq u info cmax stat g i k hk x1 x2 x3 h1 h2 h3 r fed, inv_eq u info cmax stat g i k hk x1 x2 x3 h1 h2 h3 r fed,
    tgt_eq info g i k hk x1 h1, at_eq info stat g x1 x3 h1 h3, coef_at, lse7_at, lse_at, h0, h1, h3]
  refine congrArg (fun x => clip x * _) ?_
  unfold grad
  by_cases h : BitVec.ofNat 32 (col k l).val = label info g r
  · rw [if_pos ((tgt_iff k _ l).2 h), if_pos h, hit_logit u info cmax stat g k r fed l h, mul_comm (info (ix3 g r 1))]
  · rw [if_neg fun e => h ((tgt_iff k _ l).1 e), if_neg h, mul_assoc]

include hk h0 h1 h2 h3 h4 h5 fed in
theorem inv_next (st : St) (hs : Inv u info stat w s g k.val st r) :
    Inv u info stat w s g (k.val + 1) (drNext i x0 x1 x2 x3 x4 x5 st.1, gsNext i x1 x2 x3 st.2) r where
  dr := fun x => by
    refine (dr_at x4 x5 _ _ r x).trans ?_
    rw [hs.dr, sum_range_succ]
    refine congrArg (fun s => _ + s) ?_
    unfold partN part
    rw [dif_pos k.isLt]
    refine sum_congr rfl fun l _ => ?_
    rw [act_eq u info cmax stat g i k hk x0 x1 x2 x3 h0 h1 h2 h3 r fed, h4, h5]
  gs := fun a => by
    refine (gs_at _ _ _ r a).trans ?_
    have e : BitVec.ofNat 32 a.val = BitVec.ofNat 32 (i 1).val ↔ a.val = k.val := by
      rw [hk, ← BitVec.toNat_inj, BitVec.toNat_ofNat, BitVec.toNat_ofNat, Nat.mod_eq_of_lt, Nat.mod_eq_of_lt] <;> omega
    by_cases h : a.val = k.val
    · rw [if_pos (e.2 h), if_pos (by omega), h, scale_eq u info cmax stat g i k hk x1 x2 x3 h1 h2 h3 r fed]
      unfold expoN
      rw [dif_pos k.isLt]
    · rw [if_neg fun q => h (e.1 q), hs.gs]
      by_cases q : a.val < k.val
      · rw [if_pos q, if_pos (by omega)]
      · rw [if_neg q, if_neg (by omega)]

/-! ### After the last chunk: the reference's values -/

open Cert.BwdRefIdeal.Gen in
theorem ref_expo (R : Fin 1056) (k : Fin 32) :
    Cert.BwdRefIdeal.Gen.k0_pay1 (Cert.BwdRefIdeal.Gen.k0_pay8 (F := Ideal) info u stat) (Cert.BwdRefIdeal.Gen.k0_pay9 (F := Ideal) info u stat) (ix2 R k)
      = expo u info stat (Cert.FwdRefIdeal.Rows.grp R) (Cert.FwdRefIdeal.Rows.pos R) k := by
  rw [Cert.BwdRefIdeal.Rows.rex_at, Cert.BwdRefIdeal.Rows.amp_at]
  unfold expo peak
  simp only [Cert.BwdRefIdeal.Rows.grad_at]

theorem ref_dr (st : St) (r : Fin 528) (hs : Inv u info stat w s g 32 st r) (x : Fin 1024) : st.1 (ix3 0 r x)
    = Cert.BwdRefIdeal.Gen.k0_pay3 (Cert.BwdRefIdeal.Gen.k0_pay5 w s) (Cert.BwdRefIdeal.Gen.k0_pay6 (F := Ideal) info u stat)
        (Cert.BwdRefIdeal.Gen.k0_pay8 info u stat) (Cert.BwdRefIdeal.Gen.k0_pay9 info u stat) (ix3 g r x) := by
  rw [hs.dr, Cert.BwdRefIdeal.Rows.dr_at, sum_range_chunks]
  refine sum_congr rfl fun k _ => ?_
  unfold partN part
  rw [dif_pos k.isLt]
  refine sum_congr rfl fun l _ => ?_
  rw [Cert.BwdRefIdeal.Rows.grad_at, ref_expo, Cert.FwdRefIdeal.Rows.grp_row, Cert.FwdRefIdeal.Rows.pos_row]
  rfl

theorem ref_gs (st : St) (r : Fin 528) (hs : Inv u info stat w s g 32 st r) (a : Fin 128) : st.2 (ix3 0 r a)
    = Cert.BwdRefIdeal.Gen.k0_pay4 (Cert.BwdRefIdeal.Gen.k0_pay8 (F := Ideal) info u stat) (Cert.BwdRefIdeal.Gen.k0_pay9 info u stat) (ix3 g r a) := by
  rw [hs.gs, Cert.BwdRefIdeal.Rows.gs_at]
  by_cases h : a.val < 32
  · rw [if_pos h, dif_pos h, ref_expo, Cert.FwdRefIdeal.Rows.grp_row, Cert.FwdRefIdeal.Rows.pos_row]
    unfold expoN
    rw [dif_pos h]
  · rw [if_neg h, dif_neg h]

end Row

/-! ### Along the grid -/

variable (ch : Fin 3) (m : (ℓ : Loc nD τ sig) → Buf (Elt Ideal) ℓ) (ρ : Dev nD → PrngReg)

theorem step_st (c : Dev nD) (t : Fin (cfgA ch).N) (prev : St) : step0 ch m ρ c t prev
    = (dr ch m ρ c t (if t.val % 32 = 0 then k0_pay2 (F := Ideal) else prev.1), gs ch m ρ c t (if t.val % 32 = 0 then k0_pay3 (F := Ideal) else prev.2)) := by
  by_cases q0 : P0_0 ch t
  · rw [if_pos ((coords ch t).2.1 q0), if_pos ((coords ch t).2.1 q0)]
    exact Prod.ext (dr_A ch m ρ c t prev q0) (gs_A ch m ρ c t prev q0)
  · rw [if_neg fun h => q0 ((coords ch t).2.2 h), if_neg fun h => q0 ((coords ch t).2.2 h)]
    exact Prod.ext (dr_B ch m ρ c t prev q0) (gs_B ch m ρ c t prev q0)

theorem traj_step (c : Dev nD) (n : ℕ) (h : n < (cfgA ch).N) :
    ∃ prev : St, traj0 ch m ρ c n h = step0 ch m ρ c ⟨n, h⟩ prev ∧ (∀ n' h', n = n' + 1 → prev = traj0 ch m ρ c n' h') := by
  cases n with
  | zero => exact ⟨_, rfl, fun n' h' e => by omega⟩
  | succ n => exact ⟨_, rfl, fun n' h' e => by cases Nat.succ.inj e; rfl⟩

abbrev A0 (c : Dev nD) : Vec Ideal Cert.BwdRefIdeal.S2x528x49152 .f32 := m ((c : Thread nD τ).loc main_arg0)
abbrev A1 (c : Dev nD) : Vec Ideal Cert.BwdRefIdeal.S2x528x128 .f32 := m ((c : Thread nD τ).loc main_arg1)
abbrev A2 (c : Dev nD) : Vec Ideal Cert.BwdRefIdeal.S2x528x128 .f32 := m ((c : Thread nD τ).loc main_arg2)
abbrev A3 (c : Dev nD) : Vec Ideal Cert.BwdRefIdeal.S2x528x128 .f32 := m ((c : Thread nD τ).loc main_arg3)
abbrev A4 (c : Dev nD) : Vec Ideal Cert.BwdRefIdeal.S1024x49152 .fp8e4m3 := m ((c : Thread nD τ).loc main_arg4)
abbrev A5 (c : Dev nD) : Vec Ideal Cert.BwdRefIdeal.S16x49152 .bf16 := m ((c : Thread nD τ).loc main_arg5)

/-- After every point each row carries what it should of the point's group, up to the point's chunk. -/
theorem traj_inv (c : Dev nD) (r : Fin 528) (fed : ∀ g : Fin 2, g.val < ch.val → Fed (A0 m c) (A1 m c) (A2 m c) (A3 m c) g r)
    (n : ℕ) (h : n < (cfgA ch).N) :
    Inv (A0 m c) (A1 m c) (A3 m c) (A4 m c) (A5 m c) (Geom.grp ch ⟨n, h⟩) (n % 32 + 1) (traj0 ch m ρ c n h) r := by
  have live (t : Fin (cfgA ch).N) : (Geom.grp ch t).val < ch.val := by
    show t.val / 32 < ch.val
    have h := t.isLt.trans_eq (points ch)
    omega
  have next (t : Fin (cfgA ch).N) (st : St) := inv_next (A0 m c) (A1 m c) (A2 m c) (A3 m c) (A4 m c) (A5 m c) (Geom.grp ch t) (iS ch t)
    (chunk ch t) (coords ch t).1 _ _ _ _ _ _ (iblk0_at ch m ρ c t) (iblk1_at ch m ρ c t) (iblk2_at ch m ρ c t) (iblk3_at ch m ρ c t)
    (iblk4_at ch m ρ c t) (iblk5_at ch m ρ c t) r (fed _ (live t)) st
  induction n with
  | zero =>
    obtain ⟨prev, e, -⟩ := traj_step ch m ρ c 0 h
    rw [e, step_st, if_pos (Nat.zero_mod 32), if_pos (Nat.zero_mod 32)]
    exact next ⟨0, h⟩ _ (inv_init _ _ _ _ _ _ r)
  | succ n ih =>
    obtain ⟨prev, e, hp⟩ := traj_step ch m ρ c (n + 1) h
    have hn : n < (cfgA ch).N := by omega
    rw [e, step_st]
    by_cases q : (n + 1) % 32 = 0
    · rw [if_pos q, if_pos q]
      refine next ⟨n + 1, h⟩ (k0_pay2 (F := Ideal), k0_pay3 (F := Ideal)) ?_
      show Inv _ _ _ _ _ _ ((n + 1) % 32) _ r
      rw [q]; exact inv_init _ _ _ _ _ _ r
    · rw [if_neg q, if_neg q, hp n hn rfl]
      refine next ⟨n + 1, h⟩ (traj0 ch m ρ c n hn) ?_
      show Inv _ _ _ _ _ _ ((n + 1) % 32) _ r
      have e1 : Geom.grp ch ⟨n + 1, h⟩ = Geom.grp ch ⟨n, hn⟩ := Fin.ext (by show (n + 1) / 32 = n / 32; omega)
      have e2 : (n + 1) % 32 = n % 32 + 1 := by omega
      rw [e1, e2]; exact ih hn

end Cert.BwdIdeal.Carried

end
-- ==== Proof.BwdRefRun.lean ====
/- The backward reference's run: what its two output arrays end holding, as functions of its argument arrays. -/
module

public import proofs.«01_k».proof.Proof.Gen.BwdRefIdeal.Frame
public import Idealize.ShloMosaic.Lib.Pipeline.Value

@[expose] public section

set_option maxRecDepth 16384

noncomputable section

namespace Cert.BwdRefIdeal.Run

open Cert.BwdRefIdeal Cert.BwdRefIdeal.Gen Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block is its whole array. -/
theorem index0 : ∀ (t : Fin cfg0.N) (a : Fin (cfg0.win 0).shape.rank), (cfg0.win 0).index t a = 0 := by decide +kernel
theorem emb0 (t : Fin cfg0.N) (j : S2x528x49152.Idx) : ((cfg0.win 0).blk t).view.emb j = j := by
  show ((cfg0.win 0).rect t).emb j = j
  funext a
  exact Fin.ext (Window.rect_emb_val_of_index_zero _ _ _ (index0 t a) j)
theorem index1 : ∀ (t : Fin cfg0.N) (a : Fin (cfg0.win 1).shape.rank), (cfg0.win 1).index t a = 0 := by decide +kernel
theorem emb1 (t : Fin cfg0.N) (j : S2x528x128.Idx) : ((cfg0.win 1).blk t).view.emb j = j := by
  show ((cfg0.win 1).rect t).emb j = j
  funext a
  exact Fin.ext (Window.rect_emb_val_of_index_zero _ _ _ (index1 t a) j)
theorem index2 : ∀ (t : Fin cfg0.N) (a : Fin (cfg0.win 2).shape.rank), (cfg0.win 2).index t a = 0 := by decide +kernel
theorem emb2 (t : Fin cfg0.N) (j : S2x528x128.Idx) : ((cfg0.win 2).blk t).view.emb j = j := by
  show ((cfg0.win 2).rect t).emb j = j
  funext a
  exact Fin.ext (Window.rect_emb_val_of_index_zero _ _ _ (index2 t a) j)
theorem index3 : ∀ (t : Fin cfg0.N) (a : Fin (cfg0.win 3).shape.rank), (cfg0.win 3).index t a = 0 := by decide +kernel
theorem emb3 (t : Fin cfg0.N) (j : S1024x49152.Idx) : ((cfg0.win 3).blk t).view.emb j = j := by
  show ((cfg0.win 3).rect t).emb j = j
  funext a
  exact Fin.ext (Window.rect_emb_val_of_index_zero _ _ _ (index3 t a) j)
theorem index4 : ∀ (t : Fin cfg0.N) (a : Fin (cfg0.win 4).shape.rank), (cfg0.win 4).index t a = 0 := by decide +kernel
theorem emb4 (t : Fin cfg0.N) (j : S16x49152.Idx) : ((cfg0.win 4).blk t).view.emb j = j := by
  show ((cfg0.win 4).rect t).emb j = j
  funext a
  exact Fin.ext (Window.rect_emb_val_of_index_zero _ _ _ (index4 t a) j)
theorem index5 : ∀ (t : Fin cfg0.N) (a : Fin (cfg0.win 5).shape.rank), (cfg0.win 5).index t a = 0 := by decide +kernel
theorem emb5 (t : Fin cfg0.N) (j : S2x528x1024.Idx) : ((cfg0.win 5).blk t).view.emb j = j := by
  show ((cfg0.win 5).rect t).emb j = j
  funext a
  exact Fin.ext (Window.rect_emb_val_of_index_zero _ _ _ (index5 t a) j)
theorem index6 : ∀ (t : Fin cfg0.N) (a : Fin (cfg0.win 6).shape.rank), (cfg0.win 6).index t a = 0 := by decide +kernel
theorem emb6 (t : Fin cfg0.N) (j : S2x528x128.Idx) : ((cfg0.win 6).blk t).view.emb j = j := by
  show ((cfg0.win 6).rect t).emb j = j
  funext a
  exact Fin.ext (Window.rect_emb_val_of_index_zero _ _ _ (index6 t a) j)
theorem iblk0_eq (c : Dev nD) (t : Fin cfg0.N) : iblk m c 0 t = m ((c : Thread nD τ).loc main_arg0) :=
  funext fun j => congrArg (m ((c : Thread nD τ).loc main_arg0)) (emb0 t j)
theorem iblk1_eq (c : Dev nD) (t : Fin cfg0.N) : iblk m c 1 t = m ((c : Thread nD τ).loc main_arg1) :=
  funext fun j => congrArg (m ((c : Thread nD τ).loc main_arg1)) (emb1 t j)
theorem iblk2_eq (c : Dev nD) (t : Fin cfg0.N) : iblk m c 2 t = m ((c : Thread nD τ).loc main_arg3) :=
  funext fun j => congrArg (m ((c : Thread nD τ).loc main_arg3)) (emb2 t j)
theorem iblk3_eq (c : Dev nD) (t : Fin cfg0.N) : iblk m c 3 t = m ((c : Thread nD τ).loc main_arg4) :=
  funext fun j => congrArg (m ((c : Thread nD τ).loc main_arg4)) (emb3 t j)
theorem iblk4_eq (c : Dev nD) (t : Fin cfg0.N) : iblk m c 4 t = m ((c : Thread nD τ).loc main_arg5) :=
  funext fun j => congrArg (m ((c : Thread nD τ).loc main_arg5)) (emb4 t j)

/-- What output 0 ends holding. -/
def G5 (a0 : Vec Ideal S2x528x49152 .f32) (a1 a2 : Vec Ideal S2x528x128 .f32) (a3 : Vec Ideal S1024x49152 .fp8e4m3) (a4 : Vec Ideal S16x49152 .bf16) : Vec Ideal S2x528x1024 .f32 := k0_pay3 (k0_pay5 a3 a4) (k0_pay6 a1 a0 a2) (k0_pay8 a1 a0 a2) (k0_pay9 a1 a0 a2)
theorem out5_eq (a0 : Vec Ideal S2x528x49152 .f32) (a1 a2 : Vec Ideal S2x528x128 .f32) (a3 : Vec Ideal S1024x49152 .fp8e4m3) (a4 : Vec Ideal S16x49152 .bf16) : out0_5 (F := Ideal) a0 a1 a2 a3 a4 = G5 a0 a1 a2 a3 a4 := by
  unfold_out out0_5
  unfold G5
  rw [View.canon_unit_zero hz3, View.ld_unit_zero (S := S1024x49152) hz2 _ a3, View.ld_unit_zero (S := S16x49152) hz2 _ a4, View.ld_unit_zero (S := S2x528x128) hz3 _ a1, View.ld_unit_zero (S := S2x528x49152) hz3 _ a0,
    View.ld_unit_zero (S := S2x528x128) hz3 _ a2]
theorem cut5_eq (t : Fin cfg0.N) (X : Vec Ideal S2x528x1024 .f32) :
    (cfg0.win 5).cut (grid0.coords t) X = ((cfg0.win 5).blk t).view.read (Elt Ideal) X := by
  funext j
  show X j = X (((cfg0.win 5).blk t).view.emb j)
  rw [emb5]
theorem flushed5_eq (c : Dev nD) (t : Fin cfg0.N) :
    (dats m 0 c).flushed 5 t = ((cfg0.win 5).blk t).view.read (Elt Ideal) (G5 (m ((c : Thread nD τ).loc main_arg0)) (m ((c : Thread nD τ).loc main_arg1)) (m ((c : Thread nD τ).loc main_arg3)) (m ((c : Thread nD τ).loc main_arg4)) (m ((c : Thread nD τ).loc main_arg5))) := by
  show (cfg0.win 5).cut (grid0.coords t) ((dats m 0 c).after 5 t) = _
  rw [after0_5, out5_eq, iblk0_eq, iblk1_eq, iblk2_eq, iblk3_eq, iblk4_eq]
  exact cut5_eq t _
theorem covered5 (i : S2x528x1024.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩
theorem final5 (c : Dev nD) : (dats m 0 c).arrAt 5 cfg0.N = G5 (m ((c : Thread nD τ).loc main_arg0)) (m ((c : Thread nD τ).loc main_arg1)) (m ((c : Thread nD τ).loc main_arg3)) (m ((c : Thread nD τ).loc main_arg4)) (m ((c : Thread nD τ).loc main_arg5)) :=
  (dats m 0 c).arrAt_eq_of_cover 5 _ (fun t _ => flushed5_eq m c t) covered5

/-- What output 1 ends holding. -/
def G6 (a0 : Vec Ideal S2x528x49152 .f32) (a1 a2 : Vec Ideal S2x528x128 .f32) (a3 : Vec Ideal S1024x49152 .fp8e4m3) (a4 : Vec Ideal S16x49152 .bf16) : Vec Ideal S2x528x128 .f32 := k0_pay4 (k0_pay8 a1 a0 a2) (k0_pay9 a1 a0 a2)
theorem out6_eq (a0 : Vec Ideal S2x528x49152 .f32) (a1 a2 : Vec Ideal S2x528x128 .f32) (a3 : Vec Ideal S1024x49152 .fp8e4m3) (a4 : Vec Ideal S16x49152 .bf16) : out0_6 (F := Ideal) a0 a1 a2 a3 a4 = G6 a0 a1 a2 a3 a4 := by
  unfold_out out0_6
  unfold G6
  rw [View.canon_unit_zero hz3, View.ld_unit_zero (S := S2x528x128) hz3 _ a1, View.ld_unit_zero (S := S2x528x49152) hz3 _ a0,
    View.ld_unit_zero (S := S2x528x128) hz3 _ a2]
theorem cut6_eq (t : Fin cfg0.N) (X : Vec Ideal S2x528x128 .f32) :
    (cfg0.win 6).cut (grid0.coords t) X = ((cfg0.win 6).blk t).view.read (Elt Ideal) X := by
  funext j
  show X j = X (((cfg0.win 6).blk t).view.emb j)
  rw [emb6]
theorem flushed6_eq (c : Dev nD) (t : Fin cfg0.N) :
    (dats m 0 c).flushed 6 t = ((cfg0.win 6).blk t).view.read (Elt Ideal) (G6 (m ((c : Thread nD τ).loc main_arg0)) (m ((c : Thread nD τ).loc main_arg1)) (m ((c : Thread nD τ).loc main_arg3)) (m ((c : Thread nD τ).loc main_arg4)) (m ((c : Thread nD τ).loc main_arg5))) := by
  show (cfg0.win 6).cut (grid0.coords t) ((dats m 0 c).after 6 t) = _
  rw [after0_6, out6_eq, iblk0_eq, iblk1_eq, iblk2_eq, iblk3_eq, iblk4_eq]
  exact cut6_eq t _
theorem covered6 (i : S2x528x128.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩
theorem final6 (c : Dev nD) : (dats m 0 c).arrAt 6 cfg0.N = G6 (m ((c : Thread nD τ).loc main_arg0)) (m ((c : Thread nD τ).loc main_arg1)) (m ((c : Thread nD τ).loc main_arg3)) (m ((c : Thread nD τ).loc main_arg4)) (m ((c : Thread nD τ).loc main_arg5)) :=
  (dats m 0 c).arrAt_eq_of_cover 6 _ (fun t _ => flushed6_eq m c t) covered6

/-- The reference's run: its outputs are those functions of its arguments, its arguments are as they were. -/
theorem run : θ_run defs (onTc (τ := τ) (main (F := Ideal))) ⟨m, fun _ => 0, ρ⟩ fun r => ∀ c : Dev nD,
      r.2.mem ((c.tc : Thread nD τ).loc main_v0_0) = G5 (m ((c : Thread nD τ).loc main_arg0)) (m ((c : Thread nD τ).loc main_arg1)) (m ((c : Thread nD τ).loc main_arg3)) (m ((c : Thread nD τ).loc main_arg4)) (m ((c : Thread nD τ).loc main_arg5))
      ∧ r.2.mem ((c.tc : Thread nD τ).loc main_v0_1) = G6 (m ((c : Thread nD τ).loc main_arg0)) (m ((c : Thread nD τ).loc main_arg1)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 5).trans (final5 m c), ((h c).1 6).trans (final6 m c),
    ((h c).1 0).trans ((dats m 0 c).arrAt_in 0 rfl _), ((h c).1 1).trans ((dats m 0 c).arrAt_in 1 rfl _),
    (h c).2 main_arg2 (Pipeline.mem_restRefs_of main_arg2 (by decide) (by decide)), ((h c).1 2).trans ((dats m 0 c).arrAt_in 2 rfl _),
    ((h c).1 3).trans ((dats m 0 c).arrAt_in 3 rfl _), ((h c).1 4).trans ((dats m 0 c).arrAt_in 4 rfl _),
    (h c).2 main_arg6 (Pipeline.mem_restRefs_of main_arg6 (by decide) (by decide))⟩) (run_main m ρ)

end Cert.BwdRefIdeal.Run

end
-- ==== Proof.BwdValue.lean ====
/- The backward kernel and its reference agree on the groups that the grid runs over. -/
module

public import proofs.«01_k».proof.Proof.BwdFrames
public import proofs.«01_k».proof.Proof.BwdCarry
public import proofs.«01_k».proof.Proof.BwdRefRun
public import proofs.«01_k».proof.Proof.FwdValue
public import proofs.«01_k».proof.Proof.Gen.On_live_bwd

@[expose] public section

set_option maxRecDepth 16384

noncomputable section

namespace Cert.BwdIdeal.Final

open Cert.BwdIdeal Cert.BwdIdeal.Gen Cert.BwdIdeal.Path Cert.BwdIdeal.Geom Cert.BwdIdeal.Carried
open Idealize.ShloMosaic Idealize.ShloMosaic.TcCoe Idealize.SL.Sem
open Cert.BwdRefIdeal.Run (G5 G6)
open Cert.BwdPre (Fed)

variable (ch : Fin 3) (m : (ℓ : Loc nD τ sig) → Buf (Elt Ideal) ℓ) (ρ : Dev nD → PrngReg)

/-- The last point of group `g`. -/
def last (g : Fin 2) (hg : g.val < ch.val) : Fin (cfgA ch).N :=
  ⟨g.val * 32 + 31, by rw [points]; omega⟩

theorem grp_last (g : Fin 2) (hg : g.val < ch.val) : Geom.grp ch (last ch g hg) = g :=
  Fin.ext (by show (g.val * 32 + 31) / 32 = g.val; omega)
theorem last_mod (g : Fin 2) (hg : g.val < ch.val) : (last ch g hg).val % 32 = 31 := by
  show (g.val * 32 + 31) % 32 = 31; omega

/-- There every row carries what it should of all 32 chunks. -/
theorem last_inv (c : Dev nD) (g : Fin 2) (hg : g.val < ch.val) (r : Fin 528)
    (fed : ∀ g : Fin 2, g.val < ch.val → Fed (A0 m c) (A1 m c) (A2 m c) (A3 m c) g r) :
    Inv (A0 m c) (A1 m c) (A3 m c) (A4 m c) (A5 m c) g 32 (traj0 ch m ρ c (last ch g hg).val (last ch g hg).isLt) r := by
  have h := traj_inv ch m ρ c r fed (last ch g hg).val (last ch g hg).isLt
  have e : (last ch g hg).val % 32 + 1 = 32 := by rw [last_mod]
  have e' : Geom.grp ch ⟨(last ch g hg).val, (last ch g hg).isLt⟩ = g := grp_last ch g hg
  rwa [e, e'] at h

theorem final6 (c : Dev nD) (g : Fin 2) (hg : g.val < ch.val) (r : Fin 528)
    (fed : ∀ g : Fin 2, g.val < ch.val → Fed (A0 m c) (A1 m c) (A2 m c) (A3 m c) g r) (x : Fin 1024) :
    (dats ch m ρ 0 c).arrAt (6 : Fin 8) (cfgA ch).N (ix3 g r x) = G5 (A0 m c) (A1 m c) (A3 m c) (A4 m c) (A5 m c) (ix3 g r x) := by
  have h := arr6_at ch m ρ c (last ch g hg) (last_mod ch g hg) r x
  rw [grp_last] at h
  exact h.trans (ref_dr _ _ _ _ _ g _ r (last_inv ch m ρ c g hg r fed) x)

theorem final7 (c : Dev nD) (g : Fin 2) (hg : g.val < ch.val) (r : Fin 528)
    (fed : ∀ g : Fin 2, g.val < ch.val → Fed (A0 m c) (A1 m c) (A2 m c) (A3 m c) g r) (a : Fin 128) :
    (dats ch m ρ 0 c).arrAt (7 : Fin 8) (cfgA ch).N (ix3 g r a) = G6 (A0 m c) (A1 m c) (A3 m c) (A4 m c) (A5 m c) (ix3 g r a) := by
  have h := arr7_at ch m ρ c (last ch g hg) (last_mod ch g hg) r a
  rw [grp_last] at h
  exact h.trans (ref_gs _ _ _ _ _ g _ r (last_inv ch m ρ c g hg r fed) a)

end Cert.BwdIdeal.Final

namespace Cert.Proof

open Idealize.ShloMosaic Idealize.ShloMosaic.TcCoe Idealize.SL.Sem
open Cert.BwdRefIdeal.Run (G5 G6)
open Cert.BwdIdeal.Carried (A0 A1 A2 A3 A4 A5)
open Cert.BwdPre (Fed)

/-- The kernel and the reference agree wherever the mask is set. -/
theorem algebraic_bwd : Cert.algebraic_BwdIdeal_BwdRefIdeal_on_live_bwd_pre_fed_bwd (hBwdIdeal := Cert.BwdIdeal.Gen.facts)
    (hBwdRefIdeal := Cert.BwdRefIdeal.Gen.facts) (hPre_fed_bwd := Cert.Pre_fed_bwd.Gen.facts) (hOn_live_bwd := Cert.On_live_bwd.Gen.facts) := by
  intro m ρ m' ρ' hpre hargs
  obtain ⟨ch, hp⟩ := pinned_bwdIdeal_fed m hpre
  have hc (c : Dev BwdIdeal.nD) : m ((c.tc : Thread BwdIdeal.nD BwdIdeal.τ).loc BwdIdeal.main_arg6) = fun _ => BitVec.ofNat 32 ch.val := hp c
  have fed (c : Dev BwdIdeal.nD) (r : Fin 528) (g : Fin 2) (hg : g.val < ch.val) : Fed (A0 m c) (A1 m c) (A2 m c) (A3 m c) g r :=
    letI := Cert.Pre_fed_bwd.Gen.facts
    Cert.BwdPre.fed_of_pre _ _ _ _ _ _ _ (hpre c).2.1 (hpre c).2.2 ch (hc c) g hg r
  refine ⟨fun c => G5 (A0 m c) (A1 m c) (A3 m c) (A4 m c) (A5 m c), fun c => G6 (A0 m c) (A1 m c) (A3 m c) (A4 m c) (A5 m c), ?_, ?_⟩
  · refine (θ_run _ _ _).mono (fun r h c => ?_) (Cert.BwdIdeal.Gen.run_main ch m ρ hp)
    have arr := (h c).1
    have inp (w : Fin 8) (hw : _) := (arr w).trans ((Cert.BwdIdeal.Gen.dats ch m ρ 0 c).arrAt_in w hw _)
    refine ⟨fun i hi => ?_, fun i hi => ?_, inp 0 rfl, inp 1 rfl, inp 2 rfl, inp 3 rfl, inp 4 rfl, inp 5 rfl, ((h c).2 0).trans (hp c).symm⟩
    · rw [hc] at hi
      have hg : (i 0 : Fin 2).val < ch.val := live_of_mask _ _ hi
      refine (congrFun (arr (6 : Fin 8)) i).trans ?_
      rw [ix3_split i]
      exact Cert.BwdIdeal.Final.final6 ch m ρ c _ hg _ (fed c _) _
    · rw [hc] at hi
      have hg : (i 0 : Fin 2).val < ch.val := live_of_mask _ _ hi
      refine (congrFun (arr (7 : Fin 8)) i).trans ?_
      rw [ix3_split i]
      exact Cert.BwdIdeal.Final.final7 ch m ρ c _ hg _ (fed c _) _
  · refine (θ_run _ _ _).mono (fun r h c => ?_) (Cert.BwdRefIdeal.Run.run m' ρ')
    obtain ⟨h5, h6, k⟩ := h c
    obtain ⟨e0, e1, e2, e3, e4, e5, -⟩ := hargs c
    rw [e0, e1, e3, e4, e5] at h5 h6
    exact ⟨fun i _ => congrFun h5 i, fun i _ => congrFun h6 i, k⟩

end Cert.Proof

end
-- ==== Proof.lean ====
/- The claims of this certificate, assembled: the frames of the programs, that each ideal kernel is the kernel's, and that it
   computes what its reference computes. -/
module

public import proofs.«01_k».proof.Defs
public import proofs.«01_k».proof.Proof.Frames
public import proofs.«01_k».proof.Proof.FwdValue
public import proofs.«01_k».proof.Proof.BwdFrames
public import proofs.«01_k».proof.Proof.BwdValue
public import proofs.«01_k».proof.Proof.Gen.On_live_fwd
public import proofs.«01_k».proof.Proof.Gen.On_live_bwd

@[expose] public section

noncomputable section

namespace Cert.Proof

theorem claim : Cert.Claim :=
  ⟨Cert.Fwd.Gen.facts, Cert.FwdIdeal.Gen.facts, Cert.FwdRefIdeal.Gen.facts, Cert.Bwd.Gen.facts, Cert.BwdIdeal.Gen.facts,
    Cert.BwdRefIdeal.Gen.facts, Cert.Pre_groups_fwd.Gen.facts, Cert.Pre_groups_bwd.Gen.facts, Cert.Pre_fed_bwd.Gen.facts,
    Cert.On_live_fwd.Gen.facts, Cert.On_live_bwd.Gen.facts, frame_fwd, frame_fwdIdeal, frame_fwdRefIdeal,
    fun m ρ _ => frame_fwdRefIdeal m ρ trivial, frame_bwd, frame_bwdIdeal, frame_bwdIdeal_fed, frame_bwdRefIdeal,
    fun m ρ _ => frame_bwdRefIdeal m ρ trivial, preserves_fwd, algebraic_fwd, trivial, algebraic_bwd⟩

end Cert.Proof

end
